-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4x1024x4096 : Shape := ⟨3, ![4, 1024, 4096]⟩
abbrev S512x4096 : Shape := ⟨2, ![512, 4096]⟩
abbrev S2x512x2048 : Shape := ⟨3, ![2, 512, 2048]⟩
abbrev S4 : Shape := ⟨1, ![4]⟩
abbrev S_ : Shape := ⟨0, ![]⟩
abbrev S2 : Shape := ⟨1, ![2]⟩
abbrev S1 : Shape := ⟨1, ![1]⟩
abbrev S1x512x4096 : Shape := ⟨3, ![1, 512, 4096]⟩
abbrev S512x2048 : Shape := ⟨2, ![512, 2048]⟩
abbrev S1x512x2048 : Shape := ⟨3, ![1, 512, 2048]⟩
abbrev S1x256x4096 : Shape := ⟨3, ![1, 256, 4096]⟩
abbrev S256x4096 : Shape := ⟨2, ![256, 4096]⟩
abbrev S256x2048 : Shape := ⟨2, ![256, 2048]⟩
abbrev S1x256x2048 : Shape := ⟨3, ![1, 256, 2048]⟩

abbrev nBuf : Space → Nat
  | .hbm => 4
  | .vmem => 3
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x2048, .f32⟩
  | .hbm, ⟨3, _⟩ => ⟨S4x1024x4096, .f32⟩
  | .local _ .vmem, ⟨0, _⟩ => ⟨S4096x2048, .f32⟩
  | .local _ .vmem, ⟨1, _⟩ => ⟨S512x4096, .f32⟩
  | .local _ .vmem, ⟨2, _⟩ => ⟨S2x512x2048, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let c0_i32_15 : BitVec 32 := 0#32
  ![v2.toNat, 0, 0]
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_12 : BitVec 32 := 1#32
  let v13 : BitVec 32 := Scalar.muli v7 c1_i32_12
  let v14 : BitVec 32 := Scalar.addi c0_i32_13 v13
  v14.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let c0_i32_22 : BitVec 32 := 0#32
  ![v2.toNat, 512, 0]
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_20 : BitVec 32 := 1#32
  let v22 : BitVec 32 := Scalar.muli v5 c1_i32_20
  let v23 : BitVec 32 := Scalar.addi c0_i32_21 v22
  v23.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v31 : BitVec 32 := Scalar.muli v2 c1024_i32
  let c0_i32_41 : BitVec 32 := 0#32
  ![v31.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_44 : BitVec 32 := 1024#32
  let v47 : BitVec 32 := Scalar.muli v2 c1024_i32_44
  let c512_i32_45 : BitVec 32 := 512#32
  let v48 : BitVec 32 := Scalar.addi v47 c512_i32_45
  let c0_i32_63 : BitVec 32 := 0#32
  ![v48.toNat, 0]
def k0_off5 (d0 : Dev nD) (c0_i32_67 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_66 : BitVec 32 := 4#32
  let v64 : BitVec 32 := Scalar.addi v2 c4_i32_66
  let v65 : BitVec 32 := Scalar.subi v64 c0_i32_67
  let c1_i32_68 : BitVec 32 := 1#32
  let v66 : BitVec 32 := Scalar.subi v65 c1_i32_68
  let c4_i32_69 : BitVec 32 := 4#32
  let v67 : BitVec 32 := Scalar.remsi v66 c4_i32_69
  let c0_i32_77 : BitVec 32 := 0#32
  let c0_i32_78 : BitVec 32 := 0#32
  ![v67.toNat, 0, 0]
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_83 : BitVec 32 := 1#32
  let v79 : BitVec 32 := Scalar.muli v7 c1_i32_83
  let v80 : BitVec 32 := Scalar.addi c0_i32_84 v79
  v80.toNat
def k0_off6 (d0 : Dev nD) (c0_i32_70 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c0_i32_70
  let c1_i32_71 : BitVec 32 := 1#32
  let v69 : BitVec 32 := Scalar.addi v68 c1_i32_71
  let c4_i32_72 : BitVec 32 := 4#32
  let v70 : BitVec 32 := Scalar.remsi v69 c4_i32_72
  let c512_i32_93 : BitVec 32 := 512#32
  let c0_i32_94 : BitVec 32 := 0#32
  ![v70.toNat, 512, 0]
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_99 : BitVec 32 := 1#32
  let v97 : BitVec 32 := Scalar.muli v5 c1_i32_99
  let v98 : BitVec 32 := Scalar.addi c0_i32_100 v97
  v98.toNat
def k0_off7 (d0 : Dev nD) (c0_i32_67 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_66 : BitVec 32 := 4#32
  let v64 : BitVec 32 := Scalar.addi v2 c4_i32_66
  let v65 : BitVec 32 := Scalar.subi v64 c0_i32_67
  let c1_i32_68 : BitVec 32 := 1#32
  let v66 : BitVec 32 := Scalar.subi v65 c1_i32_68
  let c4_i32_69 : BitVec 32 := 4#32
  let v67 : BitVec 32 := Scalar.remsi v66 c4_i32_69
  let c1024_i32_105 : BitVec 32 := 1024#32
  let v107 : BitVec 32 := Scalar.muli v67 c1024_i32_105
  let c0_i32_129 : BitVec 32 := 0#32
  ![v107.toNat, 0]
def k0_off8 (d0 : Dev nD) (c0_i32_70 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c0_i32_70
  let c1_i32_71 : BitVec 32 := 1#32
  let v69 : BitVec 32 := Scalar.addi v68 c1_i32_71
  let c4_i32_72 : BitVec 32 := 4#32
  let v70 : BitVec 32 := Scalar.remsi v69 c4_i32_72
  let c1024_i32_132 : BitVec 32 := 1024#32
  let v130 : BitVec 32 := Scalar.muli v70 c1024_i32_132
  let c512_i32_133 : BitVec 32 := 512#32
  let v131 : BitVec 32 := Scalar.addi v130 c512_i32_133
  let c0_i32_157 : BitVec 32 := 0#32
  ![v131.toNat, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_160 : BitVec 32 := 4#32
  let v154 : BitVec 32 := Scalar.addi v2 c4_i32_160
  let c1_i32_161 : BitVec 32 := 1#32
  let v155 : BitVec 32 := Scalar.subi v154 c1_i32_161
  let c1_i32_162 : BitVec 32 := 1#32
  let v156 : BitVec 32 := Scalar.subi v155 c1_i32_162
  let c4_i32_163 : BitVec 32 := 4#32
  let v157 : BitVec 32 := Scalar.remsi v156 c4_i32_163
  let c0_i32_179 : BitVec 32 := 0#32
  let c0_i32_180 : BitVec 32 := 0#32
  ![v157.toNat, 0, 0]
def k0_dev7 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_177 : BitVec 32 := 1#32
  let v169 : BitVec 32 := Scalar.muli v7 c1_i32_177
  let v170 : BitVec 32 := Scalar.addi c0_i32_178 v169
  v170.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_160 : BitVec 32 := 4#32
  let v154 : BitVec 32 := Scalar.addi v2 c4_i32_160
  let c1_i32_161 : BitVec 32 := 1#32
  let v155 : BitVec 32 := Scalar.subi v154 c1_i32_161
  let c1_i32_162 : BitVec 32 := 1#32
  let v156 : BitVec 32 := Scalar.subi v155 c1_i32_162
  let c4_i32_163 : BitVec 32 := 4#32
  let v157 : BitVec 32 := Scalar.remsi v156 c4_i32_163
  let c256_i32 : BitVec 32 := 256#32
  let c0_i32_186 : BitVec 32 := 0#32
  ![v157.toNat, 256, 0]
def k0_dev8 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_184 : BitVec 32 := 1#32
  let v179 : BitVec 32 := Scalar.muli v7 c1_i32_184
  let v180 : BitVec 32 := Scalar.addi c0_i32_185 v179
  v180.toNat
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_164 : BitVec 32 := 1#32
  let v158 : BitVec 32 := Scalar.addi v2 c1_i32_164
  let c1_i32_165 : BitVec 32 := 1#32
  let v159 : BitVec 32 := Scalar.addi v158 c1_i32_165
  let c4_i32_166 : BitVec 32 := 4#32
  let v160 : BitVec 32 := Scalar.remsi v159 c4_i32_166
  let c512_i32_201 : BitVec 32 := 512#32
  let c0_i32_202 : BitVec 32 := 0#32
  ![v160.toNat, 512, 0]
def k0_dev9 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_199 : BitVec 32 := 1#32
  let v197 : BitVec 32 := Scalar.muli v5 c1_i32_199
  let v198 : BitVec 32 := Scalar.addi c0_i32_200 v197
  v198.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_164 : BitVec 32 := 1#32
  let v158 : BitVec 32 := Scalar.addi v2 c1_i32_164
  let c1_i32_165 : BitVec 32 := 1#32
  let v159 : BitVec 32 := Scalar.addi v158 c1_i32_165
  let c4_i32_166 : BitVec 32 := 4#32
  let v160 : BitVec 32 := Scalar.remsi v159 c4_i32_166
  let c768_i32 : BitVec 32 := 768#32
  let c0_i32_209 : BitVec 32 := 0#32
  ![v160.toNat, 768, 0]
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_207 : BitVec 32 := 1#32
  let v207 : BitVec 32 := Scalar.muli v5 c1_i32_207
  let v208 : BitVec 32 := Scalar.addi c0_i32_208 v207
  v208.toNat
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_267 : BitVec 32 := 1#32
  let v264 : BitVec 32 := Scalar.addi v2 c1_i32_267
  let c4_i32_268 : BitVec 32 := 4#32
  let v265 : BitVec 32 := Scalar.remsi v264 c4_i32_268
  let c0_i32_276 : BitVec 32 := 0#32
  let c0_i32_277 : BitVec 32 := 0#32
  ![v265.toNat, 0, 0]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_269 : BitVec 32 := 4#32
  let v266 : BitVec 32 := Scalar.addi v2 c4_i32_269
  let c1_i32_270 : BitVec 32 := 1#32
  let v267 : BitVec 32 := Scalar.subi v266 c1_i32_270
  let c4_i32_271 : BitVec 32 := 4#32
  let v268 : BitVec 32 := Scalar.remsi v267 c4_i32_271
  let c512_i32_284 : BitVec 32 := 512#32
  let c0_i32_285 : BitVec 32 := 0#32
  ![v268.toNat, 512, 0]
def k0_off15 (d0 : Dev nD) (c0_i32_289 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_267 : BitVec 32 := 1#32
  let v264 : BitVec 32 := Scalar.addi v2 c1_i32_267
  let c4_i32_268 : BitVec 32 := 4#32
  let v265 : BitVec 32 := Scalar.remsi v264 c4_i32_268
  let c1024_i32_288 : BitVec 32 := 1024#32
  let v285 : BitVec 32 := Scalar.muli v265 c1024_i32_288
  let v286 : BitVec 32 := Scalar.addi v285 c0_i32_289
  let c0_i32_313 : BitVec 32 := 0#32
  ![v286.toNat, 0]
def k0_off16 (d0 : Dev nD) (c0_i32_318 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_269 : BitVec 32 := 4#32
  let v266 : BitVec 32 := Scalar.addi v2 c4_i32_269
  let c1_i32_270 : BitVec 32 := 1#32
  let v267 : BitVec 32 := Scalar.subi v266 c1_i32_270
  let c4_i32_271 : BitVec 32 := 4#32
  let v268 : BitVec 32 := Scalar.remsi v267 c4_i32_271
  let c1024_i32_316 : BitVec 32 := 1024#32
  let v309 : BitVec 32 := Scalar.muli v268 c1024_i32_316
  let c512_i32_317 : BitVec 32 := 512#32
  let v310 : BitVec 32 := Scalar.addi v309 c512_i32_317
  let v311 : BitVec 32 := Scalar.addi v310 c0_i32_318
  let c0_i32_342 : BitVec 32 := 0#32
  ![v311.toNat, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_267 : BitVec 32 := 1#32
  let v264 : BitVec 32 := Scalar.addi v2 c1_i32_267
  let c4_i32_268 : BitVec 32 := 4#32
  let v265 : BitVec 32 := Scalar.remsi v264 c4_i32_268
  let c256_i32_349 : BitVec 32 := 256#32
  let c0_i32_350 : BitVec 32 := 0#32
  ![v265.toNat, 256, 0]
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_269 : BitVec 32 := 4#32
  let v266 : BitVec 32 := Scalar.addi v2 c4_i32_269
  let c1_i32_270 : BitVec 32 := 1#32
  let v267 : BitVec 32 := Scalar.subi v266 c1_i32_270
  let c4_i32_271 : BitVec 32 := 4#32
  let v268 : BitVec 32 := Scalar.remsi v267 c4_i32_271
  let c768_i32_357 : BitVec 32 := 768#32
  let c0_i32_358 : BitVec 32 := 0#32
  ![v268.toNat, 768, 0]
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
Steps of a kernel body in terms of owned memrefs: a copy inside one device, a wait for it, a product of two
operand buffers written out through a tile, and a transfer to another device. Every rule here is stated for any
mesh, any signature and any float type, on the ownership predicate `owns` (the elements of a memref, at a share,
with the values read through it).
-/
module

public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Rounds
public import Idealize.ShloMosaic.Lib.Tactic

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The elements of a memref owned whole, at contents nobody has said anything about. -/
def free (c : Thread nD τ) {sp : Space} {sh : Shape} {e : EltTy} (m : Memref sig c.2.kind sp sh e) : sProp 𝕄 :=
  iprop(∃ f, (m.view.loc c ↦[m.view.set]{fullShare} f))

instance free_storable (c : Thread nD τ) {sp : Space} {sh : Shape} {e : EltTy} (m : Memref sig c.2.kind sp sh e) :
    BI.Storable (upEmb : UEmb _ 𝕄) (free c m) := by
  unfold free; infer_instance

section Owning

variable (c : Thread nD τ) {sp : Space} {sh sh' : Shape} {e : EltTy} (m : Memref sig c.2.kind sp sh e)

/-- What is owned at known contents may be forgotten about. -/
theorem free_of_owns (X : sh.Idx → Val e) : (owns c m fullShare X : sProp 𝕄) ⊢ free c m := by
  unfold owns free
  iintro ⟨%f, %hf, H⟩
  iexists f; iexact H

/-- Elements owned at any contents are owned at the contents they happen to have. -/
theorem owns_of_free : (free c m : sProp 𝕄) ⊢ iprop(∃ X, owns c m fullShare X) := by
  unfold free owns
  iintro ⟨%f, H⟩
  iexists (m.view.read Val f); iexists f
  isplitr; · ipureintro; rfl
  iexact H

/-- Owning a memref at one share is owning it at the share's left half and at its right half. -/
theorem owns_split (q : PosShare TreeShare) (X : sh.Idx → Val e) :
    (owns c m q X : sProp 𝕄) ⊢ iprop(owns c m q.left X ∗ owns c m q.right X) := by
  unfold owns
  iintro ⟨%f, %hf, H⟩
  ihave H := (pointsTo_share (PosShare.mem_left_op_right q)).1 $$ H
  icases H with ⟨Hl, Hr⟩
  isplitl [Hl]
  · iexists f; isplitr; · ipureintro; exact hf
    iexact Hl
  · iexists f; isplitr; · ipureintro; exact hf
    iexact Hr

/-- A memref with its axes of size one dropped has the same elements, read at the renamed index. -/
theorem owns_squeeze (h : sh.Squeezes sh') (q : PosShare TreeShare) (X : sh.Idx → Val e) :
    (owns c m q X : sProp 𝕄)
      ⊢ owns c (m.squeeze sh' h) q (fun i => X (Shape.reshapeEquiv h.numel_eq i)) := by
  unfold owns
  iintro ⟨%f, %hf, H⟩
  iexists f
  isplitr
  · ipureintro; subst hf; rfl
  · have hs : (m.squeeze sh' h).view.set = m.view.set := View.set_reshape _ _
    rw [hs]; iexact H

/-- The same for elements at any contents, and backwards. -/
theorem free_squeeze (h : sh.Squeezes sh') : (free c (m.squeeze sh' h) : sProp 𝕄) = free c m := by
  unfold free
  have hs : (m.squeeze sh' h).view.set = m.view.set := View.set_reshape _ _
  rw [hs]

end Owning

section Programs

variable [Preorder Lvl] {Λ : Labels} {defs : Defs nD τ sig Val Λ} (𝒱 : Variants) (c : Thread nD τ) (bd : Option 𝒱.V)

/-- A copy inside the device: from a source held at any share and a destination held at any contents, on a counter
    at zero, the core goes on with the copy in flight; it delivers the destination at the source's values and the
    source back. -/
theorem wp_copy {α : Type} {Q : α → sProp 𝕄} (EC : UEmb Counters 𝕄) [Infinite Name] [EC.LandsIn (upEmb : UEmb _ 𝕄)] {sp sp' : Space} {s : Shape} {e : EltTy}
    {src : Memref sig c.2.kind sp s e} {dst : Memref sig c.2.kind sp' s e} {sm : DmaSem sig}
    {hsrc : src.view.WordExact} {hdst : dst.view.WordExact}
    {hsem : DmaTarget.Typed (nD := nD) sp (.dma sm) (.here dst)}
    {k : PUnit → Prog (TpuEff nD τ sig Val Λ c.2) α} {q : PosShare TreeShare} {X : s.Idx → Val e} (ι : Ix)
    (hs : 0 < s.numel) :
    iprop(owns c src q X ∗ free c dst ∗ semVal (c, .dma sm) 0)
      ⊢ iprop((Flight EC c (.dma sm) ι dst.view.dmaCredit iprop(owns c dst fullShare X ∗ owns c src q X)
              -∗ wp frame (wpE defs 𝒱 c bd) Set.univ (k ⟨⟩) Q)
          -∗ wp frame (wpE defs 𝒱 c bd) Set.univ (.op (.enqueueDma src (.here dst) (.dma sm) hsrc hdst hsem) k) Q) := by
  unfold owns free
  iintro ⟨⟨%fs, %hfs, Hs⟩, ⟨%fd, Hd⟩, Hv⟩ Hk
  iapply (wp_dmaLocal EC 𝒱 c bd (Sd := dst.view.set) ι dst.view.dmaCredit rfl (View.dmaCredit_pos _ hs) subset_rfl)
    $$ [Hs Hd Hv]
  · isplitl [Hs]; · iexact Hs
    isplitl [Hd]; · iexact Hd
    iexact Hv
  iintro HF
  iapply Hk
  iapply (Flight_mono EC c ?_) $$ HF
  iintro ⟨Hd, Hs⟩
  isplitl [Hd]
  · iexists _
    isplitr; swap; · iexact Hd
    ipureintro
    rw [View.read_write_univ]; exact hfs
  · iexists fs
    isplitr; · ipureintro; exact hfs
    iexact Hs

/-- The wait for a copy in flight, on a core that may still owe others: what the copy delivers, and the counter back
    at zero. -/
theorem wp_arrive {α : Type} {Q : α → sProp 𝕄} (EC : UEmb Counters 𝕄) [EC.LandsIn (upEmb : UEmb _ 𝕄)] {sp sp' : Space} {s s' : Shape} {e e' : EltTy} {sm : DmaSem sig}
    {srcw : Memref sig c.2.kind sp' s' e'} {dstw : Memref sig c.2.kind sp s e}
    {hsrc : srcw.view.WordExact} {hdst : dstw.view.WordExact}
    {k : PUnit → Prog (TpuEff nD τ sig Val Λ c.2) α} (ι : Ix) {N : ℕ} (hN : dstw.view.dmaCredit = N) {D : sProp 𝕄}
    {O : CellTallies nD τ sig Ix} {W : Waits sig Ix} {P : sProp 𝕄}
    (hmw : P ⊢ MayWait c (.dma sm) ι O) :
    iprop(Flight EC c (.dma sm) ι N D ∗ owes c O W ∗ P)
      ⊢ iprop(((D ∗ semVal (c, .dma sm) 0 ∗ owes c O (insert (SemLoc.dma sm, ι) W))
              -∗ wp frame (wpE defs 𝒱 c bd) Set.univ (k ⟨⟩) Q)
          -∗ wp frame (wpE defs 𝒱 c bd) Set.univ (.op (.waitDma2 sm srcw dstw hsrc hdst) k) Q) := by
  iintro ⟨HF, HO, HP⟩ Hk
  iapply (wp_waitLocalO EC 𝒱 c bd ι hN) $$ [HF HO HP]
  · isplitl [HF]; · iexact HF
    isplitl [HO]; · iexact HO
    iapply hmw; iexact HP
  iexact Hk

/-- A product: the two operands are loaded, the tile is loaded (its values are not used) and stored, and the copy of the
    tile to the result is started. What it delivers is the result at the product's values (the tile's, with its axis of
    size one dropped), and the tile. -/
theorem wp_product {α : Type} {Q : α → sProp 𝕄} (EC : UEmb Counters 𝕄) [Infinite Name] [EC.LandsIn (upEmb : UEmb _ 𝕄)] {csx csw cso : CoreSpace} {sp : Space}
    {sx sw so s' : Shape} {ex ew e : EltTy}
    {mx : Memref sig c.2.kind csx sx ex} {mw : Memref sig c.2.kind csw sw ew} {mo : Memref sig c.2.kind cso so e}
    {rx : Rect sx} {rw : Rect sw} {ro : Rect so} (hrx : ∀ a, rx.stride a = 1) (hrw : ∀ a, rw.stride a = 1)
    {hro : ∀ a, ro.stride a = 1}
    {hlx : mx.view.LoadsAt rx} {hlw : mw.view.LoadsAt rw} {hlo : mo.view.LoadsAt ro}
    {pay : (rx.shape.Idx → Val ex) → (rw.shape.Idx → Val ew) → ro.shape.Idx → Val e}
    {hst : (mo.access ro).Stores Finset.univ} {hm : (Finset.univ : Finset ro.shape.Idx) = Finset.univ ∨ ∀ a, ro.stride a = 1}
    {hsq : ro.shape.Squeezes s'} {dst : Memref sig c.2.kind sp s' e} {sm : DmaSem sig}
    {hsrc : ((mo.slice ro hro).squeeze s' hsq).view.WordExact} {hdst : dst.view.WordExact}
    {hsem : DmaTarget.Typed (nD := nD) cso (.dma sm) (.here dst)}
    {k : PUnit → Prog (TpuEff nD τ sig Val Λ c.2) α} {qx qw : PosShare TreeShare}
    {X : rx.shape.Idx → Val ex} {Y : rw.shape.Idx → Val ew} (ι : Ix) (hs : 0 < s'.numel) :
    iprop(owns c (mx.slice rx hrx) qx X ∗ owns c (mw.slice rw hrw) qw Y ∗ free c (mo.slice ro hro) ∗ free c dst
        ∗ semVal (c, .dma sm) 0)
      ⊢ iprop(((owns c (mx.slice rx hrx) qx X ∗ owns c (mw.slice rw hrw) qw Y
              ∗ Flight EC c (.dma sm) ι dst.view.dmaCredit
                  iprop(owns c dst fullShare (fun i => pay X Y (Shape.reshapeEquiv hsq.numel_eq i)) ∗ free c (mo.slice ro hro)))
              -∗ wp frame (wpE defs 𝒱 c bd) Set.univ (k ⟨⟩) Q)
          -∗ wp frame (wpE defs 𝒱 c bd) Set.univ
              (.op (.load mx rx hlx) fun x => .op (.load mw rw hlw) fun w => .op (.load mo ro hlo) fun _ =>
                .op (.store mo ro (pay x w) Finset.univ hst hm) fun _ =>
                .op (.enqueueDma ((mo.slice ro hro).squeeze s' hsq) (.here dst) (.dma sm) hsrc hdst hsem) k) Q) := by
  iintro ⟨Hx, Hw, Ho, Hd, Hv⟩ Hk
  ihave Hx := (show owns c (mx.slice rx hrx) qx X
    ⊢ iprop(∃ f, ⌜(mx.access rx).read Val f = X⌝ ∗ ((mx.access rx).loc c ↦[(mx.access rx).set]{qx} f)) from .rfl) $$ Hx
  icases Hx with ⟨%fx, %hfx, Hx⟩
  ihave Hw := (show owns c (mw.slice rw hrw) qw Y
    ⊢ iprop(∃ f, ⌜(mw.access rw).read Val f = Y⌝ ∗ ((mw.access rw).loc c ↦[(mw.access rw).set]{qw} f)) from .rfl) $$ Hw
  icases Hw with ⟨%fw, %hfw, Hw⟩
  ihave Ho := (show free c (mo.slice ro hro)
    ⊢ iprop(∃ f, ((mo.access ro).loc c ↦[(mo.access ro).set]{fullShare} f)) from .rfl) $$ Ho
  icases Ho with ⟨%fo, Ho⟩
  iapply (wp_load_rect 𝒱 c bd Set.univ subset_rfl) $$ Hx; iintro Hx
  iapply (wp_load_rect 𝒱 c bd Set.univ subset_rfl) $$ Hw; iintro Hw
  iapply (wp_load_rect 𝒱 c bd Set.univ subset_rfl) $$ Ho; iintro Ho
  iapply (wp_store 𝒱 c bd Set.univ (View.setOn_subset_set _ _)) $$ Ho; iintro Ho
  rw [hfx, hfw]
  ihave Ho := (show ((mo.access ro).loc c ↦[(mo.access ro).set]{fullShare} ((mo.access ro).write Val fo (pay X Y) Finset.univ))
    ⊢ owns c (mo.slice ro hro) fullShare (pay X Y) from by
      have h := owns_intro (Ix := Ix) (Name := Name) (U := U) (Lvl := Lvl) c (mo.slice ro hro) fullShare ((mo.access ro).write Val fo (pay X Y) Finset.univ)
      rw [show (mo.slice ro hro).view.read Val ((mo.access ro).write Val fo (pay X Y) Finset.univ) = pay X Y from View.read_write_univ _ _] at h
      exact h) $$ Ho
  ihave Ho := (owns_squeeze c (mo.slice ro hro) hsq fullShare (pay X Y)) $$ Ho
  iapply (wp_copy 𝒱 c bd EC ι hs) $$ [Ho Hd Hv]
  · isplitl [Ho]; · iexact Ho
    isplitl [Hd]; · iexact Hd
    iexact Hv
  iintro HF
  iapply Hk
  isplitl [Hx]
  · unfold owns; iexists fx
    isplitr; · ipureintro; exact hfx
    iexact Hx
  isplitl [Hw]
  · unfold owns; iexists fw
    isplitr; · ipureintro; exact hfw
    iexact Hw
  iapply (Flight_mono EC c ?_) $$ HF
  iintro ⟨Hd, Ho⟩
  isplitl [Hd]; · iexact Hd
  ihave Ho := (free_of_owns c _ _) $$ Ho
  ihave Ho := (Entails.of_eq (free_squeeze c (mo.slice ro hro) hsq)) $$ Ho
  iexact Ho

end Programs

section Remote

variable [Preorder Lvl] {Λ : Labels} {defs : Defs nD τ sig Val Λ} (𝒱 : Variants) (c : Thread nD τ) (bd : Option 𝒱.V)

/-- A transfer to another device: from a source held at any share and the destination there held at any contents, the
    core pays one duty of its own send cell (the source back) and one of the other device's receive cell (the destination
    at the source's values). -/
theorem wp_transfer {α : Type} {Q : α → sProp 𝕄} {D : Type} [DecidableEq D] (E : Emb (URounds (GSem nD τ sig) D) 𝕄) (Rd : Schedule (GSem nD τ sig) D 𝕄)
    {sp sp' : Space} {s : Shape} {e : EltTy} {c' : Thread nD τ}
    {src : Memref sig c.2.kind sp s e} {dst : Memref sig c'.2.kind sp' s e} {hsc : dst.view.ref.isScScratch = false} {sS sem : DmaSem sig}
    {hsrc : src.view.WordExact} {hdst : dst.view.WordExact} {hsem : DmaTarget.Typed sp (.dma sem) (.remote c' dst (.dma sS) hsc)}
    {k : PUnit → Prog (TpuEff nD τ sig Val Λ c.2) α} {q : PosShare TreeShare} {X : s.Idx → Val e} {d₁ d₂ : D}
    {κ₁ κ₂ : Name}
    (hd₁ : d₁ ∈ Rd.duties (c, SemLoc.dma sS) 0) (hd₂ : d₂ ∈ Rd.duties (c', SemLoc.dma sem) 0)
    (ι : Ix) (N : ℕ) (hN : dst.view.dmaCredit = N)
    (hk₁ : Rd.amount (c, SemLoc.dma sS) 0 d₁ = N) (hk₂ : Rd.amount (c', SemLoc.dma sem) 0 d₂ = N)
    {O₀ : CellTallies nD τ sig Ix} (O : CellTallies nD τ sig Ix) (hO : O₀ = O + tallyAt (c', SemLoc.dma sem) ι N) {W : Waits sig Ix}
    (hpay₁ : (owns c src q X : sProp 𝕄) ⊢ Rd.payload (c, SemLoc.dma sS) 0 d₁)
    (hpay₂ : (owns c' dst fullShare X : sProp 𝕄) ⊢ Rd.payload (c', SemLoc.dma sem) 0 d₂) (hr : τ.routes c c' = true := by routes) :
    (iprop(cellInv E Rd κ₁ (c, SemLoc.dma sS) ∗ cellInv E Rd κ₂ (c', SemLoc.dma sem)
        ∗ owns c src q X ∗ free c' dst ∗ owes c O₀ W
        ∗ dutyTok E (c, SemLoc.dma sS) 0 d₁ ∗ reached E (c, SemLoc.dma sS) 0
        ∗ dutyTok E (c', SemLoc.dma sem) 0 d₂ ∗ reached E (c', SemLoc.dma sem) 0) : sProp 𝕄)
      ⊢ iprop(((cred (tallyAt (c, SemLoc.dma sS) ι N) ∗ owes c O W) -∗ wp frame (wpE defs 𝒱 c bd) Set.univ (k ⟨⟩) Q)
          -∗ wp frame (wpE defs 𝒱 c bd) Set.univ
              (.op (.enqueueDma src (.remote c' dst (.dma sS) hsc) (.dma sem) hsrc hdst hsem) k) Q) := by
  iintro ⟨H1, H2, Hs, Hd, HO, Ht1, Hr1, Ht2, Hr2⟩ Hk
  ihave Hs := (show owns c src q X ⊢ iprop(∃ f, ⌜src.view.read Val f = X⌝ ∗ (src.view.loc c ↦[src.view.set]{q} f)) from .rfl) $$ Hs
  icases Hs with ⟨%fs, %hfs, Hs⟩
  ihave Hd := (show free c' dst ⊢ iprop(∃ f, (dst.view.loc c' ↦[dst.view.set]{fullShare} f)) from .rfl) $$ Hd
  icases Hd with ⟨%fd, Hd⟩
  iapply (Rounds.wp_send_pointsTo 𝒱 E Rd c bd (κ₁ := κ₁) (κ₂ := κ₂) (r₁ := 0) (r₂ := 0) (d₁ := d₁) (d₂ := d₂) (fd := fd)
    hd₁ hd₂ ι ι N hN hk₁ hk₂ O hO
    ((owns_intro c src q fs).trans (by rw [hfs]; exact hpay₁))
    ((owns_intro c' dst fullShare _).trans (by rw [View.read_write_univ, hfs]; exact hpay₂)) hr) $$ [H1 H2 Hs Hd HO Ht1 Hr1 Ht2 Hr2]
  · isplitl [H1]; · iexact H1
    isplitl [H2]; · iexact H2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

end Remote

end Cert.Steps
-- ==== Proof.Parts.lean ====
/-
Owning a memref in parts: a slice that covers everything, a slice and the rest, a slice cut in two, and a whole buffer
cut along a finite family of parts and put together again. Stated for any mesh, signature and float type.
-/
module

public import proofs.«01_k».proof.Proof.Steps

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

section Slices

variable (c : Thread nD τ) {sp : Space} {sh : Shape} {e : EltTy} (m : Memref sig c.2.kind sp sh e)
variable (r : Rect sh) (hr : ∀ a, r.stride a = 1)

theorem set_full (h : r.set = Finset.univ) : (m.slice r hr).view.set = m.view.set := by
  show (m.view.slice r).set = m.view.set
  rw [View.set_slice, h]; rfl

/-- A slice with every element in it is the memref, read at the slice's indices. -/
theorem owns_full (h : r.set = Finset.univ) (q : PosShare TreeShare) (X : sh.Idx → Val e) :
    (owns c m q X : sProp 𝕄) ⊢ owns c (m.slice r hr) q (fun i => X (r.emb i)) := by
  unfold owns
  iintro ⟨%f, %hf, H⟩
  iexists f
  isplitr
  · ipureintro; subst hf; rfl
  · rw [set_full c m r hr h]; iexact H

theorem free_full (h : r.set = Finset.univ) : (free c (m.slice r hr) : sProp 𝕄) = free c m := by
  unfold free
  rw [set_full c m r hr h]

/-- The elements of a memref outside a slice of it, at any contents. -/
def rest : sProp 𝕄 := iprop(∃ f, (m.view.loc c ↦[m.view.set \ (m.slice r hr).view.set]{fullShare} f))

/-- A memref is a slice of it and the rest. -/
theorem free_take : (free c m : sProp 𝕄) ⊢ iprop(free c (m.slice r hr) ∗ rest c m r hr) := by
  unfold free rest
  iintro ⟨%f, H⟩
  ihave H := (pointsTo_split_subset (m.view.set_slice_subset r)).1 $$ H
  icases H with ⟨H1, H2⟩
  isplitl [H1]
  · iexists f; iexact H1
  · iexists f; iexact H2

theorem free_put : iprop(free c (m.slice r hr) ∗ rest c m r hr) ⊢ (free c m : sProp 𝕄) := by
  unfold free rest
  iintro ⟨⟨%g, H1⟩, ⟨%f, H2⟩⟩
  ihave H := (pointsTo_join_subset (ℓ := m.view.loc c) (S := m.view.set) (I := (m.slice r hr).view.set) (f := f) (g := g) (m.view.set_slice_subset r)) $$ [H1 H2]
  · isplitl [H1]; · iexact H1
    iexact H2
  iexists _; iexact H

/-- Where two slices make up the memref, the rest of one is the other. -/
theorem rest_eq (r' : Rect sh) (hr' : ∀ a, r'.stride a = 1) (hd : Disjoint r.set r'.set) (hu : r.set ∪ r'.set = Finset.univ) :
    (rest c m r hr : sProp 𝕄) = free c (m.slice r' hr') := by
  have hs : m.view.set \ (m.slice r hr).view.set = (m.slice r' hr').view.set := by
    show m.view.set \ (m.view.slice r).set = (m.view.slice r').set
    rw [View.set_slice, View.set_slice]
    have hm : m.view.set = r.set.map m.view.emb ∪ r'.set.map m.view.emb := by
      rw [← Finset.map_union, hu]; rfl
    rw [hm, Finset.union_sdiff_cancel_left ((Finset.disjoint_map _).2 hd)]
  unfold rest free
  rw [hs]

end Slices

section Cut

variable (c : Thread nD τ) {sp : Space} {sh s₁ s₂ s₃ : Shape} {e : EltTy} (m : Memref sig c.2.kind sp sh e)
variable {r r₁ r₂ : Rect sh} {hr : ∀ a, r.stride a = 1} {hr₁ : ∀ a, r₁.stride a = 1} {hr₂ : ∀ a, r₂.stride a = 1}
variable {h : r.shape.Squeezes s₁} {h₁ : r₁.shape.Squeezes s₂} {h₂ : r₂.shape.Squeezes s₃}

theorem set_cut (hd : Disjoint r₁.set r₂.set) (hu : r.set = r₁.set ∪ r₂.set) :
    ((m.slice r hr).squeeze s₁ h).view.set = ((m.slice r₁ hr₁).squeeze s₂ h₁).view.set ∪ ((m.slice r₂ hr₂).squeeze s₃ h₂).view.set
      ∧ Disjoint ((m.slice r₁ hr₁).squeeze s₂ h₁).view.set ((m.slice r₂ hr₂).squeeze s₃ h₂).view.set := by
  have e₀ : ((m.slice r hr).squeeze s₁ h).view.set = r.set.map m.view.emb := (View.set_reshape _ _).trans (View.set_slice _ _)
  have e₁ : ((m.slice r₁ hr₁).squeeze s₂ h₁).view.set = r₁.set.map m.view.emb := (View.set_reshape _ _).trans (View.set_slice _ _)
  have e₂ : ((m.slice r₂ hr₂).squeeze s₃ h₂).view.set = r₂.set.map m.view.emb := (View.set_reshape _ _).trans (View.set_slice _ _)
  rw [e₀, e₁, e₂, hu]
  exact ⟨Finset.map_union _ _, (Finset.disjoint_map _).2 hd⟩

/-- A squeezed slice cut in two, with the values each part is read at. -/
theorem owns_cut (hd : Disjoint r₁.set r₂.set) (hu : r.set = r₁.set ∪ r₂.set) (q : PosShare TreeShare)
    {X : s₁.Idx → Val e} {X₁ : s₂.Idx → Val e} {X₂ : s₃.Idx → Val e}
    (hX₁ : ∀ f, ((m.slice r hr).squeeze s₁ h).view.read Val f = X → ((m.slice r₁ hr₁).squeeze s₂ h₁).view.read Val f = X₁)
    (hX₂ : ∀ f, ((m.slice r hr).squeeze s₁ h).view.read Val f = X → ((m.slice r₂ hr₂).squeeze s₃ h₂).view.read Val f = X₂) :
    (owns c ((m.slice r hr).squeeze s₁ h) q X : sProp 𝕄)
      ⊢ iprop(owns c ((m.slice r₁ hr₁).squeeze s₂ h₁) q X₁ ∗ owns c ((m.slice r₂ hr₂).squeeze s₃ h₂) q X₂) := by
  obtain ⟨hset, hdis⟩ := set_cut (c := c) m (hr := hr) (hr₁ := hr₁) (hr₂ := hr₂) (h := h) (h₁ := h₁) (h₂ := h₂) hd hu
  unfold owns
  rw [hset]
  iintro ⟨%f, %hf, H⟩
  ihave H := (pointsTo_union hdis).1 $$ H
  icases H with ⟨H1, H2⟩
  isplitl [H1]
  · iexists f
    isplitr; · ipureintro; exact hX₁ f hf
    iexact H1
  · iexists f
    isplitr; · ipureintro; exact hX₂ f hf
    iexact H2

end Cut

section Family

variable {T : Type} [Fintype T] [DecidableEq T] {ℓ : Loc nD τ sig}

/-- A whole buffer, at any contents, along a family of parts that make it up. -/
theorem whole_split (K : T → Finset (Idx ℓ)) (hd : ∀ t t', t ≠ t' → Disjoint (K t) (K t')) (hu : Finset.univ.biUnion K = Finset.univ)
    (f : Buf Val ℓ) : (ℓ ↦{fullShare} f : sProp 𝕄) ⊢ bigSep Finset.univ fun t => iprop(∃ g, (ℓ ↦[K t]{fullShare} g)) := by
  have h := pointsTo_biUnion (Ix := Ix) (Name := Name) (U := U) (Lvl := Lvl) (q := fullShare) (f := f) Finset.univ K
    (fun t _ t' _ ht => hd t t' ht)
  rw [hu] at h
  rw [h]
  exact bigSep_mono fun t _ =>
    (show ((ℓ ↦[K t]{fullShare} f) : sProp 𝕄) ⊢ iprop(∃ g, (ℓ ↦[K t]{fullShare} g)) from by iintro H; iexists f; iexact H)

/-- The same at one share and known contents, each part keeping them. -/
theorem whole_split_at (K : T → Finset (Idx ℓ)) (hd : ∀ t t', t ≠ t' → Disjoint (K t) (K t')) (hu : Finset.univ.biUnion K = Finset.univ)
    (q : PosShare TreeShare) (f : Buf Val ℓ) : (ℓ ↦{q} f : sProp 𝕄) ⊢ bigSep Finset.univ fun t => (ℓ ↦[K t]{q} f) := by
  have h := pointsTo_biUnion (Ix := Ix) (Name := Name) (U := U) (Lvl := Lvl) (q := q) (f := f) Finset.univ K
    (fun t _ t' _ ht => hd t t' ht)
  rw [hu] at h
  rw [h]

/-- The parts put together again: the buffer at some contents of which every part has the fact it had. -/
theorem whole_join (K : T → Finset (Idx ℓ)) (hd : ∀ t t', t ≠ t' → Disjoint (K t) (K t')) (hu : Finset.univ.biUnion K = Finset.univ)
    (P : T → Buf Val ℓ → Prop) (hP : ∀ t f g, (∀ i ∈ K t, g i = f i) → P t f → P t g) (f₀ : Buf Val ℓ) :
    (bigSep Finset.univ fun t => iprop(∃ f, ⌜P t f⌝ ∗ (ℓ ↦[K t]{fullShare} f)))
      ⊢ (iprop(∃ f, ⌜∀ t, P t f⌝ ∗ (ℓ ↦{fullShare} f)) : sProp 𝕄) := by
  have hpi := @BI.bigSep_exists_pi 𝕄 _ T _ (fun _ : T => Buf Val ℓ) (fun _ => ⟨f₀⟩) Finset.univ
    (fun t f => (iprop(⌜P t f⌝ ∗ (ℓ ↦[K t]{fullShare} f)) : sProp 𝕄))
  iintro H
  ihave H := hpi $$ H
  icases H with ⟨%fs, H⟩
  ihave H := (BI.bigSep_pure_sep Finset.univ (fun t => P t (fs t)) fun t => (ℓ ↦[K t]{fullShare} fs t)) $$ H
  icases H with ⟨%hp, H⟩
  ihave H := (pointsTo_biUnion_join Finset.univ K fs f₀ (fun t _ t' _ ht => hd t t' ht)) $$ H
  icases H with ⟨%g, %hg, H⟩
  rw [hu]
  iexists g
  isplitr
  · ipureintro; exact fun t => hP t (fs t) g (hg t (Finset.mem_univ t)) (hp t (Finset.mem_univ t))
  · iexact H

/-- A family of parts taken out of a whole buffer, which need not make it up: what lies outside is dropped. -/
theorem whole_take (K : T → Finset (Idx ℓ)) (hd : ∀ t t', t ≠ t' → Disjoint (K t) (K t')) (f : Buf Val ℓ) :
    (ℓ ↦{fullShare} f : sProp 𝕄) ⊢ bigSep Finset.univ fun t => iprop(∃ g, (ℓ ↦[K t]{fullShare} g)) := by
  have h := pointsTo_biUnion (Ix := Ix) (Name := Name) (U := U) (Lvl := Lvl) (q := fullShare) (f := f) Finset.univ K
    (fun t _ t' _ ht => hd t t' ht)
  refine BI.Entails.trans (show (ℓ ↦{fullShare} f : sProp 𝕄) ⊢ bigSep Finset.univ fun t => (ℓ ↦[K t]{fullShare} f) from ?_)
    (bigSep_mono fun t _ =>
      (show ((ℓ ↦[K t]{fullShare} f) : sProp 𝕄) ⊢ iprop(∃ g, (ℓ ↦[K t]{fullShare} g)) from by iintro H; iexists f; iexact H))
  iintro H
  ihave H := (pointsTo_split_subset (Finset.subset_univ (Finset.univ.biUnion K))).1 $$ H
  icases H with ⟨H, -⟩
  ihave H := (Entails.of_eq h) $$ H
  iexact H

end Family

section Lend

variable (c : Thread nD τ) {sp sp' : Space} {sh sh' : Shape} {e e' : EltTy}

/-- A part of a memref at any contents, and the promise of the memref for the part. -/
theorem free_lend (m : Memref sig c.2.kind sp sh e) (r r' : Rect sh) (hr : ∀ a, r.stride a = 1) (hr' : ∀ a, r'.stride a = 1)
    (h : r'.set ⊆ r.set) :
    (free c (m.slice r hr) : sProp 𝕄) ⊢ iprop(free c (m.slice r' hr') ∗ (free c (m.slice r' hr') -∗ free c (m.slice r hr))) := by
  have hs : (m.slice r' hr').view.set ⊆ (m.slice r hr).view.set := by
    show (m.view.slice r').set ⊆ (m.view.slice r).set
    rw [View.set_slice, View.set_slice]; exact Finset.map_subset_map.2 h
  show iprop(∃ f, (m.view.loc c ↦[(m.slice r hr).view.set]{fullShare} f))
    ⊢ iprop((∃ f, (m.view.loc c ↦[(m.slice r' hr').view.set]{fullShare} f))
      ∗ ((∃ f, (m.view.loc c ↦[(m.slice r' hr').view.set]{fullShare} f)) -∗ ∃ f, (m.view.loc c ↦[(m.slice r hr).view.set]{fullShare} f)))
  iintro ⟨%f, H⟩
  ihave H := (pointsTo_split_subset hs).1 $$ H
  icases H with ⟨H1, H2⟩
  isplitl [H1]
  · iexists f; iexact H1
  · iintro ⟨%g, H1⟩
    ihave H := (pointsTo_join_subset (ℓ := m.view.loc c) (f := f) (g := g) hs) $$ [H1 H2]
    · isplitl [H1]; · iexact H1
      iexact H2
    iexists _; iexact H

/-- Of a whole buffer at one share, a slice at the values read through it; the rest is dropped. -/
theorem owns_take (b : Ref sig c.2.kind) (q : PosShare TreeShare) (f : b.ty.Contents Val) (r : Rect b.ty.shape) (hr : ∀ a, r.stride a = 1) :
    ((c.loc b) ↦{q} f : sProp 𝕄) ⊢ owns c ((Memref.whole b).slice r hr) q (((Memref.whole b).slice r hr).view.read Val f) := by
  refine BI.Entails.trans (show ((c.loc b) ↦{q} f : sProp 𝕄)
    ⊢ (((Memref.whole b).slice r hr).view.loc c ↦[((Memref.whole b).slice r hr).view.set]{q} f) from ?_)
    (owns_intro c ((Memref.whole b).slice r hr) q f)
  iintro H
  ihave H := (pointsTo_split_subset (ℓ := c.loc b) (q := q) (f := f) (Finset.subset_univ ((Memref.whole b).slice r hr).view.set)).1 $$ H
  icases H with ⟨H, -⟩
  iexact H

end Lend

end Cert.Steps
-- ==== Proof.KernelIdealFlow.lean ====
/-
The kernel's body in its own order, written over the buffers' parts by name: on device `c`, the halves and quarters of
a block of the gathered matrix, the windows of the result, and the twenty transfer semaphores. `body_eq` says that the
body as printed is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Steps

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of four devices -/

set_option backward.proofsInPublic true in
/-- The device after `c` on the ring. -/
def nxt (c : Dev nD) : Dev nD := ⟨(c.val + 1) % 4, Nat.mod_lt _ (by decide)⟩
set_option backward.proofsInPublic true in
/-- The device before `c` on the ring. -/
def prv (c : Dev nD) : Dev nD := ⟨(c.val + 3) % 4, Nat.mod_lt _ (by decide)⟩
set_option backward.proofsInPublic true in
/-- The device opposite `c` on the ring. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = opp c := by revert c; decide
theorem prv_prv (c : Dev nD) : prv (prv c) = opp c := by revert c; decide
theorem opp_nxt (c : Dev nD) : opp (nxt c) = prv c := by revert c; decide
theorem opp_prv (c : Dev nD) : opp (prv c) = nxt c := by revert c; decide
theorem opp_opp (c : Dev nD) : opp (opp c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = prv c := Fin.ext (k0_dev9_eq c)
theorem dev10_eq (c : Dev nD) : (⟨k0_dev10 c, k0_dev10_lt c⟩ : Dev nD) = prv c := Fin.ext (k0_dev10_eq c)

/-! ## Offsets by name -/

theorem off1_eq (c : Dev nD) : k0_off1 c = ![c.val, 0, 0] := k0_off1_eq c
theorem off2_eq (c : Dev nD) : k0_off2 c = ![c.val, 512, 0] := k0_off2_eq c
theorem off3_eq (c : Dev nD) : k0_off3 c = ![1024 * c.val + 0, 0] := k0_off3_eq c
theorem off4_eq (c : Dev nD) : k0_off4 c = ![1024 * c.val + 512, 0] := k0_off4_eq c
theorem off5_0 : ∀ c : Dev nD, k0_off5 c 0#32 = ![(prv c).val, 0, 0] := fun c => k0_off5_eq c 0
theorem off5_1 : ∀ c : Dev nD, k0_off5 c 1#32 = ![(opp c).val, 0, 0] := fun c => (k0_off5_eq c 1)
theorem off6_0 : ∀ c : Dev nD, k0_off6 c 0#32 = ![(nxt c).val, 512, 0] := fun c => k0_off6_eq c 0
theorem off6_1 : ∀ c : Dev nD, k0_off6 c 1#32 = ![(opp c).val, 512, 0] := fun c => k0_off6_eq c 1
theorem off7_0 : ∀ c : Dev nD, k0_off7 c 0#32 = ![1024 * (prv c).val + 0, 0] := fun c => k0_off7_eq c 0
theorem off7_1 : ∀ c : Dev nD, k0_off7 c 1#32 = ![1024 * (opp c).val + 0, 0] := fun c => k0_off7_eq c 1
theorem off8_0 : ∀ c : Dev nD, k0_off8 c 0#32 = ![1024 * (nxt c).val + 512, 0] := fun c => k0_off8_eq c 0
theorem off8_1 : ∀ c : Dev nD, k0_off8 c 1#32 = ![1024 * (opp c).val + 512, 0] := fun c => k0_off8_eq c 1
theorem off9_eq (c : Dev nD) : k0_off9 c = ![(opp c).val, 0, 0] := k0_off9_eq c
theorem off10_eq (c : Dev nD) : k0_off10 c = ![(opp c).val, 256, 0] := k0_off10_eq c
theorem off11_eq (c : Dev nD) : k0_off11 c = ![(opp c).val, 512, 0] := k0_off11_eq c
theorem off12_eq (c : Dev nD) : k0_off12 c = ![(opp c).val, 768, 0] := k0_off12_eq c
theorem off13_eq (c : Dev nD) : k0_off13 c = ![(nxt c).val, 0, 0] := k0_off13_eq c
theorem off14_eq (c : Dev nD) : k0_off14 c = ![(prv c).val, 512, 0] := k0_off14_eq c
theorem off15_0 : ∀ c : Dev nD, k0_off15 c 0#32 = ![1024 * (nxt c).val + 0, 0] := fun c => k0_off15_eq c 0
theorem off15_1 : ∀ c : Dev nD, k0_off15 c 256#32 = ![1024 * (nxt c).val + 256, 0] := fun c => k0_off15_eq c 1
theorem off16_0 : ∀ c : Dev nD, k0_off16 c 0#32 = ![1024 * (prv c).val + 512, 0] := fun c =>
  (k0_off16_eq c 0).trans rfl
theorem off16_1 : ∀ c : Dev nD, k0_off16 c 256#32 = ![1024 * (prv c).val + 768, 0] := fun c =>
  (k0_off16_eq c 1).trans (by simp only [prv]; rfl)
theorem off17_eq (c : Dev nD) : k0_off17 c = ![(nxt c).val, 256, 0] := k0_off17_eq c
theorem off18_eq (c : Dev nD) : k0_off18 c = ![(prv c).val, 768, 0] := k0_off18_eq c

/-! ## The parts of the buffers -/

theorem half_inb (o : Dev nD) (a : ℕ) (ha : a + 512 ≤ 1024) :
    ∀ k, (![o.val, a, 0] : Fin 3 → ℕ) k + S1x512x4096.size k ≤ S4x1024x4096.size k := by
  have ho : o.val < 4 := o.isLt
  intro k; fin_cases k
  · show o.val + 1 ≤ 4; omega
  · show a + 512 ≤ 1024; exact ha
  · show 0 + 4096 ≤ 4096; omega
theorem qtr_inb (o : Dev nD) (a : ℕ) (ha : a + 256 ≤ 1024) :
    ∀ k, (![o.val, a, 0] : Fin 3 → ℕ) k + S1x256x4096.size k ≤ S4x1024x4096.size k := by
  have ho : o.val < 4 := o.isLt
  intro k; fin_cases k
  · show o.val + 1 ≤ 4; omega
  · show a + 256 ≤ 1024; exact ha
  · show 0 + 4096 ≤ 4096; omega
theorem xHalf_inb (a : ℕ) (ha : a + 512 ≤ 1024) :
    ∀ k, (![a, 0] : Fin 2 → ℕ) k + S512x4096.size k ≤ S1024x4096.size k := by
  intro k; fin_cases k
  · show a + 512 ≤ 1024; exact ha
  · show 0 + 4096 ≤ 4096; omega
theorem oHalf_inb (o : Dev nD) (a : ℕ) (ha : a + 512 ≤ 1024) :
    ∀ k, (![1024 * o.val + a, 0] : Fin 2 → ℕ) k + S512x2048.size k ≤ S4096x2048.size k := by
  have ho : o.val < 4 := o.isLt
  intro k; fin_cases k
  · show 1024 * o.val + a + 512 ≤ 4096; omega
  · show 0 + 2048 ≤ 2048; omega
theorem oQtr_inb (o : Dev nD) (a : ℕ) (ha : a + 256 ≤ 1024) :
    ∀ k, (![1024 * o.val + a, 0] : Fin 2 → ℕ) k + S256x2048.size k ≤ S4096x2048.size k := by
  have ho : o.val < 4 := o.isLt
  intro k; fin_cases k
  · show 1024 * o.val + a + 256 ≤ 4096; omega
  · show 0 + 2048 ≤ 2048; omega

/-- The block of `x`, the block of `w`, the result and the gathered matrix. -/
abbrev xM : Memref sig .tc .hbm S1024x4096 .f32 := Memref.whole main_arg0
abbrev wM : Memref sig .tc .hbm S4096x2048 .f32 := Memref.whole main_arg1
abbrev oM : Memref sig .tc .hbm S4096x2048 .f32 := Memref.whole main_v1_0
abbrev gM : Memref sig .tc .hbm S4x1024x4096 .f32 := Memref.whole main_v1_1
/-- The copies in the core's own memory: of `w`, of the rows being multiplied, and the two tiles of products. -/
abbrev wV : Memref sig .tc .vmem S4096x2048 .f32 := Memref.whole cc0_scratch0
abbrev xV : Memref sig .tc .vmem S512x4096 .f32 := Memref.whole cc0_scratch1
abbrev tV : Memref sig .tc .vmem S2x512x2048 .f32 := Memref.whole cc0_scratch2

/-- Rows `a` to `a + 512` of device `o`'s block in the gathered matrix. -/
abbrev half (o : Dev nD) (a : ℕ) (ha : a + 512 ≤ 1024 := by decide) : Memref sig .tc .hbm S512x4096 .f32 :=
  (gM.slice (Rect.unit (s := S4x1024x4096) ![o.val, a, 0] S1x512x4096.size (half_inb o a ha)) (fun _ => rfl)).squeeze
    S512x4096 squeezes_S1x512x4096_S512x4096
/-- Rows `a` to `a + 256` of device `o`'s block in the gathered matrix. -/
abbrev qtr (o : Dev nD) (a : ℕ) (ha : a + 256 ≤ 1024 := by decide) : Memref sig .tc .hbm S256x4096 .f32 :=
  (gM.slice (Rect.unit (s := S4x1024x4096) ![o.val, a, 0] S1x256x4096.size (qtr_inb o a ha)) (fun _ => rfl)).squeeze
    S256x4096 squeezes_S1x256x4096_S256x4096
/-- Rows `a` to `a + 512` of the device's own block of `x`. -/
abbrev xHalf (a : ℕ) (ha : a + 512 ≤ 1024 := by decide) : Memref sig .tc .hbm S512x4096 .f32 :=
  xM.slice (Rect.unit (s := S1024x4096) ![a, 0] S512x4096.size (xHalf_inb a ha)) (fun _ => rfl)
/-- Rows `a` to `a + 512` of device `o`'s rows of the result. -/
abbrev oHalf (o : Dev nD) (a : ℕ) (ha : a + 512 ≤ 1024 := by decide) : Memref sig .tc .hbm S512x2048 .f32 :=
  oM.slice (Rect.unit (s := S4096x2048) ![1024 * o.val + a, 0] S512x2048.size (oHalf_inb o a ha)) (fun _ => rfl)
/-- Rows `a` to `a + 256` of device `o`'s rows of the result. -/
abbrev oQtr (o : Dev nD) (a : ℕ) (ha : a + 256 ≤ 1024 := by decide) : Memref sig .tc .hbm S256x2048 .f32 :=
  oM.slice (Rect.unit (s := S4096x2048) ![1024 * o.val + a, 0] S256x2048.size (oQtr_inb o a ha)) (fun _ => rfl)
/-- The rows to multiply, all 512 and the first 256 of them. -/
abbrev rowsH : Memref sig .tc .vmem S512x4096 .f32 :=
  xV.slice (Rect.unit (s := S512x4096) ![0, 0] S512x4096.size inb_S512x4096_S512x4096_0_0) (fun _ => rfl)
abbrev rowsQ : Memref sig .tc .vmem S256x4096 .f32 :=
  xV.slice (Rect.unit (s := S512x4096) ![0, 0] S256x4096.size inb_S512x4096_S256x4096_0_0) (fun _ => rfl)

section At
variable {off : Fin 3 → ℕ} {off' : Fin 2 → ℕ} {o : Dev nD} {a : ℕ}

/-- A part of a buffer at an offset known to equal its closed form is the part by name. -/
theorem half_at (ha : a + 512 ≤ 1024)
    (h : off = ![o.val, a, 0]) (inb) (pf) :
    (gM.slice (Rect.unit (s := S4x1024x4096) off S1x512x4096.size inb) pf).squeeze S512x4096 squeezes_S1x512x4096_S512x4096 = half o a ha := by
  subst h; rfl
theorem qtr_at (ha : a + 256 ≤ 1024)
    (h : off = ![o.val, a, 0]) (inb) (pf) :
    (gM.slice (Rect.unit (s := S4x1024x4096) off S1x256x4096.size inb) pf).squeeze S256x4096 squeezes_S1x256x4096_S256x4096 = qtr o a ha := by
  subst h; rfl
theorem oHalf_at (ha : a + 512 ≤ 1024)
    (h : off' = ![1024 * o.val + a, 0]) (inb) (pf) :
    oM.slice (Rect.unit (s := S4096x2048) off' S512x2048.size inb) pf = oHalf o a ha := by
  subst h; rfl
theorem oQtr_at (ha : a + 256 ≤ 1024)
    (h : off' = ![1024 * o.val + a, 0]) (inb) (pf) :
    oM.slice (Rect.unit (s := S4096x2048) off' S256x2048.size inb) pf = oQtr o a ha := by
  subst h; rfl

/-- A transfer's target on a device known to equal its closed form. -/
theorem to_at {n : ℕ} {hn : n < nD} {p : Dev nD} (h : (⟨n, hn⟩ : Dev nD) = p) {s : Shape} (dst : Memref sig .tc .hbm s .f32)
    (sm : SemLoc sig) (hs) :
    (DmaTarget.remote (τ := τ) (p := .tc) (Dev.tc (⟨n, hn⟩ : Dev nD)) dst sm hs : DmaTarget nD τ sig .tc .hbm s .f32)
      = DmaTarget.remote (Dev.tc p) dst sm hs := by
  subst h; rfl

end At

theorem tile_inb (b : Fin 2) : ∀ k, (![b.val, 0, 0] : Fin 3 → ℕ) k + S1x512x2048.size k ≤ S2x512x2048.size k := by
  have hb := b.isLt
  intro k; fin_cases k
  · show b.val + 1 ≤ 2; omega
  · show 0 + 512 ≤ 512; omega
  · show 0 + 2048 ≤ 2048; omega
theorem tileQ_inb (b : Fin 2) : ∀ k, (![b.val, 0, 0] : Fin 3 → ℕ) k + S1x256x2048.size k ≤ S2x512x2048.size k := by
  have hb := b.isLt
  intro k; fin_cases k
  · show b.val + 1 ≤ 2; omega
  · show 0 + 256 ≤ 512; omega
  · show 0 + 2048 ≤ 2048; omega

abbrev tileR (b : Fin 2) : Rect S2x512x2048 := Rect.unit (s := S2x512x2048) ![b.val, 0, 0] S1x512x2048.size (tile_inb b)
abbrev tileQR (b : Fin 2) : Rect S2x512x2048 := Rect.unit (s := S2x512x2048) ![b.val, 0, 0] S1x256x2048.size (tileQ_inb b)
/-- Tile `b`, and its first 256 rows. -/
abbrev tile (b : Fin 2) : Memref sig .tc .vmem S1x512x2048 .f32 := tV.slice (tileR b) (fun _ => rfl)
abbrev tileQ (b : Fin 2) : Memref sig .tc .vmem S1x256x2048 .f32 := tV.slice (tileQR b) (fun _ => rfl)
abbrev tileS (b : Fin 2) : Memref sig .tc .vmem S512x2048 .f32 := (tile b).squeeze S512x2048 squeezes_S1x512x2048_S512x2048
abbrev tileQS (b : Fin 2) : Memref sig .tc .vmem S256x2048 .f32 := (tileQ b).squeeze S256x2048 squeezes_S1x256x2048_S256x2048

/-- The transfer semaphores by number: four each for what is sent to the next device, received from the previous one,
    sent to the previous one, received from the next one; then `w`'s, the rows', and the two tiles'. -/
abbrev ds (n : ℕ) (h : n < 20 := by decide) : DmaSem sig := ⟨n, h⟩
/-- The barrier semaphore. -/
abbrev barS : Sem sig := (SemArray.scalar (sig.barrier 0 rfl) : Sems sig S_).sem

/-! ## The program -/

/-- Programs of the core. -/
abbrev Pg (F : FTy → Type) [FloatOps F] : Type 1 := Prog (TpuEff nD τ sig (Elt F) Λ₀ .tc) PUnit

/-- A transfer to device `p`. -/
abbrev send {s : Shape} (src dst : Memref sig .tc .hbm s .f32) (p : Dev nD) (sS sR : DmaSem sig) (k : Pg F) : Pg F :=
  .op (.enqueueDma src (.remote (Dev.tc p) dst (.dma sS)) (.dma sR) (View.wordExact_bits rfl) (View.wordExact_bits rfl)
    ⟨⟨rfl, Or.inl rfl⟩, trivial⟩) fun _ => k
/-- A copy inside the device. -/
abbrev copy {sp sp' : Space} {s : Shape} (src : Memref sig .tc sp s .f32) (dst : Memref sig .tc sp' s .f32) (sm : DmaSem sig)
    (h : DmaTarget.Typed (nD := nD) (τ := τ) (p := .tc) sp (.dma sm) (.here dst)) (k : Pg F) : Pg F :=
  .op (.enqueueDma src (.here dst) (.dma sm) (View.wordExact_bits rfl) (View.wordExact_bits rfl) h) fun _ => k
/-- The wait for a transfer's bytes. -/
abbrev await {sp sp' : Space} {s s' : Shape} (sm : DmaSem sig) (src : Memref sig .tc sp s .f32)
    (dst : Memref sig .tc sp' s' .f32) (k : Pg F) : Pg F :=
  .op (.waitDma2 sm src dst (View.wordExact_bits rfl) (View.wordExact_bits rfl)) fun _ => k
/-- The product of the 512 rows and `w`, stored in tile `b` and copied to `dst`. -/
abbrev mulH (b : Fin 2) (sm : DmaSem sig) (dst : Memref sig .tc .hbm S512x2048 .f32) (k : Pg F) : Pg F :=
  .op (.load xV (Rect.unit (s := S512x4096) ![0, 0] S512x4096.size inb_S512x4096_S512x4096_0_0).toLoadRect (View.loadsAt_vmem h_S512x4096)) fun x =>
  .op (.load wV (Rect.unit (s := S4096x2048) ![0, 0] S4096x2048.size inb_S4096x2048_S4096x2048_0_0).toLoadRect (View.loadsAt_vmem h_S4096x2048)) fun w =>
  .op (.load tV (tileR b).toLoadRect (View.loadsAt_vmem h_S1x512x2048)) fun _ =>
  .op (.store tV (tileR b) (k0_pay1 x w) Finset.univ (View.stores_vmem_bits_univ h_S1x512x2048 rfl) (.inl rfl)) fun _ =>
  copy (tileS b) dst sm ⟨Or.inl rfl, trivial⟩ k
/-- The product of the first 256 rows and `w`, stored in tile `b` and copied to `dst`. -/
abbrev mulQ (b : Fin 2) (sm : DmaSem sig) (dst : Memref sig .tc .hbm S256x2048 .f32) (k : Pg F) : Pg F :=
  .op (.load xV (Rect.unit (s := S512x4096) ![0, 0] S256x4096.size inb_S512x4096_S256x4096_0_0).toLoadRect (View.loadsAt_vmem h_S256x4096)) fun x =>
  .op (.load wV (Rect.unit (s := S4096x2048) ![0, 0] S4096x2048.size inb_S4096x2048_S4096x2048_0_0).toLoadRect (View.loadsAt_vmem h_S4096x2048)) fun w =>
  .op (.load tV (tileQR b).toLoadRect (View.loadsAt_vmem h_S1x256x2048)) fun _ =>
  .op (.store tV (tileQR b) (k0_pay7 x w) Finset.univ (View.stores_vmem_bits_univ h_S1x256x2048 rfl) (.inl rfl)) fun _ =>
  copy (tileQS b) dst sm ⟨Or.inl rfl, trivial⟩ k

/-- The last phase: quarter `j` from either side, and its products. -/
abbrev lastQ (c : Dev nD) {s s' : Shape} (a a' : ℕ) (ha : a + 256 ≤ 1024) (ha' : a' + 256 ≤ 1024) (r l : DmaSem sig)
    (t : Memref sig .tc .vmem s .f32) (t' : Memref sig .tc .vmem s' .f32)
    (p : Memref sig .tc .hbm s .f32) (p' : Memref sig .tc .hbm s' .f32) (k : Pg F) : Pg F :=
  await r (qtr (nxt c) a ha) (qtr (nxt c) a ha) <|
  await l (qtr (prv c) a' ha') (qtr (prv c) a' ha') <|
  copy (qtr (nxt c) a ha) rowsQ (ds 17) ⟨Or.inl rfl, trivial⟩ <|
  await (ds 18) t p <|
  await (ds 17) (qtr (nxt c) a ha) rowsQ <|
  mulQ 0 (ds 18) (oQtr (nxt c) a ha) <|
  copy (qtr (prv c) a' ha') rowsQ (ds 17) ⟨Or.inl rfl, trivial⟩ <|
  await (ds 19) t' p' <|
  await (ds 17) (qtr (prv c) a' ha') rowsQ <|
  mulQ 1 (ds 19) (oQtr (prv c) a' ha') k

/-- The sends' waits and the last two results'. -/
abbrev flowEnd (c : Dev nD) : Pg F :=
  await (ds 0) (half c 0) (xHalf 0) <|
  await (ds 8) (half c 512) (xHalf 512) <|
  await (ds 1) (half (prv c) 0) (half (prv c) 0) <|
  await (ds 9) (half (nxt c) 512) (half (nxt c) 512) <|
  await (ds 2) (qtr (opp c) 0) (qtr (opp c) 0) <|
  await (ds 3) (qtr (opp c) 256) (qtr (opp c) 256) <|
  await (ds 10) (qtr (opp c) 512) (qtr (opp c) 512) <|
  await (ds 11) (qtr (opp c) 768) (qtr (opp c) 768) <|
  await (ds 18) (tileQS 0) (oQtr (nxt c) 256) <|
  await (ds 19) (tileQS 1) (oQtr (prv c) 768) <|
  .ret ⟨⟩

/-- The second step round the ring: the opposite device's halves arrive, go on as quarters, and are multiplied. -/
abbrev flowOpp (c : Dev nD) (k : Pg F) : Pg F :=
  await (ds 5) (half (opp c) 0) (half (opp c) 0) <|
  send (qtr (opp c) 0) (qtr (opp c) 0) (nxt c) (ds 2) (ds 6) <|
  send (qtr (opp c) 256) (qtr (opp c) 256) (nxt c) (ds 3) (ds 7) <|
  await (ds 13) (half (opp c) 512) (half (opp c) 512) <|
  send (qtr (opp c) 512) (qtr (opp c) 512) (prv c) (ds 10) (ds 14) <|
  send (qtr (opp c) 768) (qtr (opp c) 768) (prv c) (ds 11) (ds 15) <|
  copy (half (opp c) 0) rowsH (ds 17) ⟨Or.inl rfl, trivial⟩ <|
  await (ds 18) (tileS 0) (oHalf (prv c) 0) <|
  await (ds 17) (half (opp c) 0) rowsH <|
  mulH 0 (ds 18) (oHalf (opp c) 0) <|
  copy (half (opp c) 512) rowsH (ds 17) ⟨Or.inl rfl, trivial⟩ <|
  await (ds 19) (tileS 1) (oHalf (nxt c) 512) <|
  await (ds 17) (half (opp c) 512) rowsH <|
  mulH 1 (ds 19) (oHalf (opp c) 512) k

/-- The first step round the ring: the neighbours' halves arrive, go on, and are multiplied. -/
abbrev flowNbr (c : Dev nD) (k : Pg F) : Pg F :=
  await (ds 4) (half (prv c) 0) (half (prv c) 0) <|
  send (half (prv c) 0) (half (prv c) 0) (nxt c) (ds 1) (ds 5) <|
  await (ds 12) (half (nxt c) 512) (half (nxt c) 512) <|
  send (half (nxt c) 512) (half (nxt c) 512) (prv c) (ds 9) (ds 13) <|
  copy (half (prv c) 0) rowsH (ds 17) ⟨Or.inl rfl, trivial⟩ <|
  await (ds 18) (tileS 0) (oHalf c 0) <|
  await (ds 17) (half (prv c) 0) rowsH <|
  mulH 0 (ds 18) (oHalf (prv c) 0) <|
  copy (half (nxt c) 512) rowsH (ds 17) ⟨Or.inl rfl, trivial⟩ <|
  await (ds 19) (tileS 1) (oHalf c 512) <|
  await (ds 17) (half (nxt c) 512) rowsH <|
  mulH 1 (ds 19) (oHalf (nxt c) 512) k

/-- The start: `w` is fetched, the neighbours are told and heard, the device's own halves go out and are multiplied. -/
abbrev flowOwn (c : Dev nD) (k : Pg F) : Pg F :=
  copy wM wV (ds 16) ⟨Or.inl rfl, trivial⟩ <|
  .op (.semSignal (prv c : Thread nD τ) barS 1) fun _ =>
  .op (.semSignal (nxt c : Thread nD τ) barS 1) fun _ =>
  .op (.semWait barS 2) fun _ =>
  send (xHalf 0) (half c 0) (nxt c) (ds 0) (ds 4) <|
  send (xHalf 512) (half c 512) (prv c) (ds 8) (ds 12) <|
  await (ds 16) wM wV <|
  copy (xHalf 0) rowsH (ds 17) ⟨Or.inl rfl, trivial⟩ <|
  await (ds 17) (xHalf 0) rowsH <|
  mulH 0 (ds 18) (oHalf c 0) <|
  copy (xHalf 512) rowsH (ds 17) ⟨Or.inl rfl, trivial⟩ <|
  await (ds 17) (xHalf 512) rowsH <|
  mulH 1 (ds 19) (oHalf c 512) k

/-- The whole body on device `c`. -/
abbrev flow (c : Dev nD) : Pg F :=
  flowOwn c <| flowNbr c <| flowOpp c <|
  lastQ c 0 512 (by decide) (by decide) (ds 6) (ds 14) (tileS 0) (tileS 1) (oHalf (opp c) 0) (oHalf (opp c) 512) <|
  lastQ c 256 768 (by decide) (by decide) (ds 7) (ds 15) (tileQS 0) (tileQS 1) (oQtr (nxt c) 0) (oQtr (prv c) 512) <|
  flowEnd c

set_option maxRecDepth 65536 in
set_option maxHeartbeats 0 in
/-- The printed body is `flow` at the device it runs on. -/
theorem body_eq :
    cc0_body (F := F) xM (Memref.isWhole_whole _) wM (Memref.isWhole_whole _) oM (Memref.isWhole_whole _) gM (Memref.isWhole_whole _) wV (Memref.isWhole_whole _)
      xV (Memref.isWhole_whole _) tV (Memref.isWhole_whole _) cc0_scratch3 cc0_scratch4 cc0_scratch5 cc0_scratch6 cc0_scratch7 cc0_scratch8 cc0_scratch9
      = .op .deviceId fun c => flow c := by
  rw [cc0_body_eq_skeleton]
  simp only [cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton,
    k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel,
    semSignalWord, semWaitWord, Prog.lift, Prog.bind_op, Prog.bind_ret, Prog.pure_eq_ret]
  refine congrArg (Prog.op TpuEff.deviceId) (funext fun c => ?_)
  simp only [dev1_eq, dev2_eq, to_at (dev3_eq c), to_at (dev4_eq c), to_at (dev5_eq c), to_at (dev6_eq c), to_at (dev7_eq c),
    to_at (dev8_eq c), to_at (dev9_eq c), to_at (dev10_eq c),
    half_at (a := 0) (by decide) (off1_eq c), half_at (a := 512) (by decide) (off2_eq c), half_at (a := 0) (by decide) (off5_0 c),
    half_at (a := 0) (by decide) (off5_1 c), half_at (a := 512) (by decide) (off6_0 c), half_at (a := 512) (by decide) (off6_1 c),
    qtr_at (a := 0) (by decide) (off9_eq c), qtr_at (a := 256) (by decide) (off10_eq c), qtr_at (a := 512) (by decide) (off11_eq c),
    qtr_at (a := 768) (by decide) (off12_eq c), qtr_at (a := 0) (by decide) (off13_eq c), qtr_at (a := 512) (by decide) (off14_eq c),
    qtr_at (a := 256) (by decide) (off17_eq c), qtr_at (a := 768) (by decide) (off18_eq c),
    oHalf_at (a := 0) (by decide) (off3_eq c), oHalf_at (a := 512) (by decide) (off4_eq c), oHalf_at (a := 0) (by decide) (off7_0 c),
    oHalf_at (a := 0) (by decide) (off7_1 c), oHalf_at (a := 512) (by decide) (off8_0 c), oHalf_at (a := 512) (by decide) (off8_1 c),
    oQtr_at (a := 0) (by decide) (off15_0 c), oQtr_at (a := 256) (by decide) (off15_1 c), oQtr_at (a := 512) (by decide) (off16_0 c),
    oQtr_at (a := 768) (by decide) (off16_1 c)]
  rfl

end Cert.KernelIdealRing
-- ==== Proof.KernelIdealBands.lean ====
/-
The ten bands of rows that a device's buffers are cut into: the two halves of its own block, the two halves that reach
it from its neighbours, the two that reach it from the opposite device, and the four quarters that come the long way
round. The bands of the gathered matrix are handed out, those of the result are put together at the end. The values that
the bands hold are here too.
-/
module

public import proofs.«01_k».proof.Proof.KernelIdealFlow
public import proofs.«01_k».proof.Proof.Parts
public import Idealize.ShloMosaic.Lib.ValueLayout

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Indices -/

/-- Dropping a leading axis of size one keeps the other two coordinates. -/
theorem squeeze_coord {a b : ℕ} (h : (⟨2, ![a, b]⟩ : Shape).numel = (⟨3, ![1, a, b]⟩ : Shape).numel) (i : (⟨2, ![a, b]⟩ : Shape).Idx) :
    ((Shape.reshapeEquiv h i) 1).val = (i 0).val ∧ ((Shape.reshapeEquiv h i) 2).val = (i 1).val ∧ ((Shape.reshapeEquiv h i) 0).val = 0 := by
  have hi : i = ValueIdx.ix2 (i 0) (i 1) := by funext k; fin_cases k <;> rfl
  have := (congrArg (Shape.reshapeEquiv h) hi).trans (ValueIdx.reshapeEquiv_ix2_1ab h (i 0) (i 1))
  rw [this]; exact ⟨rfl, rfl, rfl⟩

/-- The row and the column of the gathered matrix that an index of one device's rows names. -/
def gIdx (o : Dev nD) (r : ℕ) (hr : r < 1024) (k : Fin 4096) : S4x1024x4096.Idx :=
  ValueIdx.ix3 (⟨o.val, o.isLt⟩ : Fin 4) (⟨r, hr⟩ : Fin 1024) k

/-- Where a half's elements lie in the gathered matrix. -/
theorem half_emb (o : Dev nD) (a : ℕ) (ha : a + 512 ≤ 1024) (i : S512x4096.Idx) :
    (half o a ha).view.emb i = gIdx o (a + (i 0).val) (by have : (i 0).val < 512 := (i 0).isLt; omega) (i 1) := by
  obtain ⟨h1, h2, h0⟩ := squeeze_coord (a := 512) (b := 4096) squeezes_S1x512x4096_S512x4096.numel_eq i
  funext k
  fin_cases k
  · refine Fin.ext ?_
    show o.val + 1 * ((Shape.reshapeEquiv squeezes_S1x512x4096_S512x4096.numel_eq i) 0).val = o.val
    rw [h0]; omega
  · refine Fin.ext ?_
    show a + 1 * ((Shape.reshapeEquiv squeezes_S1x512x4096_S512x4096.numel_eq i) 1).val = a + (i 0).val
    rw [h1]; omega
  · refine Fin.ext ?_
    show 0 + 1 * ((Shape.reshapeEquiv squeezes_S1x512x4096_S512x4096.numel_eq i) 2).val = (i 1).val
    rw [h2]; omega

/-- Where a quarter's elements lie in the gathered matrix. -/
theorem qtr_emb (o : Dev nD) (a : ℕ) (ha : a + 256 ≤ 1024) (i : S256x4096.Idx) :
    (qtr o a ha).view.emb i = gIdx o (a + (i 0).val) (by have : (i 0).val < 256 := (i 0).isLt; omega) (i 1) := by
  obtain ⟨h1, h2, h0⟩ := squeeze_coord (a := 256) (b := 4096) squeezes_S1x256x4096_S256x4096.numel_eq i
  funext k
  fin_cases k
  · refine Fin.ext ?_
    show o.val + 1 * ((Shape.reshapeEquiv squeezes_S1x256x4096_S256x4096.numel_eq i) 0).val = o.val
    rw [h0]; omega
  · refine Fin.ext ?_
    show a + 1 * ((Shape.reshapeEquiv squeezes_S1x256x4096_S256x4096.numel_eq i) 1).val = a + (i 0).val
    rw [h1]; omega
  · refine Fin.ext ?_
    show 0 + 1 * ((Shape.reshapeEquiv squeezes_S1x256x4096_S256x4096.numel_eq i) 2).val = (i 1).val
    rw [h2]; omega

/-! ## Values -/

variable (m : (ℓ : Loc nD τ sig) → Buf (Elt F) ℓ)

theorem xQtr_inb (a : ℕ) (ha : a + 256 ≤ 1024) :
    ∀ k, (![a, 0] : Fin 2 → ℕ) k + S256x4096.size k ≤ S1024x4096.size k := by
  intro k; fin_cases k
  · show a + 256 ≤ 1024; exact ha
  · show 0 + 4096 ≤ 4096; omega
/-- Rows `a` to `a + 256` of the device's own block of `x`. -/
abbrev xQtr (a : ℕ) (ha : a + 256 ≤ 1024 := by decide) : Memref sig .tc .hbm S256x4096 .f32 :=
  xM.slice (Rect.unit (s := S1024x4096) ![a, 0] S256x4096.size (xQtr_inb a ha)) (fun _ => rfl)

/-- Rows `a` to `a + 512` of device `o`'s block of `x`, as launched. -/
def xH (o : Dev nD) (a : ℕ) (ha : a + 512 ≤ 1024 := by decide) : S512x4096.Idx → Elt F .f32 :=
  (xHalf a ha).view.read (Elt F) (m ((o : Thread nD τ).loc main_arg0))
/-- Rows `a` to `a + 256` of device `o`'s block of `x`, as launched. -/
def xQ (o : Dev nD) (a : ℕ) (ha : a + 256 ≤ 1024 := by decide) : S256x4096.Idx → Elt F .f32 :=
  (xQtr a ha).view.read (Elt F) (m ((o : Thread nD τ).loc main_arg0))
/-- Device `c`'s block of `w`, as launched. -/
def wW (c : Dev nD) : S4096x2048.Idx → Elt F .f32 := m ((c : Thread nD τ).loc main_arg1)
abbrev wR : Rect S4096x2048 := Rect.unit (s := S4096x2048) ![0, 0] S4096x2048.size inb_S4096x2048_S4096x2048_0_0
/-- The same as it is loaded. -/
def wL (c : Dev nD) : S4096x2048.Idx → Elt F .f32 := fun i => wW m c (wR.emb i)
/-- What is stored for 512 rows, and for 256. -/
def prodH (X : S512x4096.Idx → Elt F .f32) (Y : S4096x2048.Idx → Elt F .f32) : S512x2048.Idx → Elt F .f32 :=
  fun i => k0_pay1 X Y (Shape.reshapeEquiv squeezes_S1x512x2048_S512x2048.numel_eq i)
def prodQ (X : S256x4096.Idx → Elt F .f32) (Y : S4096x2048.Idx → Elt F .f32) : S256x2048.Idx → Elt F .f32 :=
  fun i => k0_pay7 X Y (Shape.reshapeEquiv squeezes_S1x256x2048_S256x2048.numel_eq i)

/-- A half of device `o`'s block that holds rows of device `p`'s `x` has in each of its quarters the quarter's rows. -/
theorem qtr_of_half (o p : Dev nD) (a b : ℕ) (ha : a + 512 ≤ 1024) (hb : b + 256 ≤ 512) (hab : a + b + 256 ≤ 1024)
    (f : (main_v1_1 : Ref sig .tc).ty.Contents (Elt F))
    (h : (half o a ha).view.read (Elt F) f = xH m p a ha) : (qtr o (a + b) hab).view.read (Elt F) f = xQ m p (a + b) hab := by
  funext i
  have hi : (i 0).val < 256 := (i 0).isLt
  let j : S512x4096.Idx := ValueIdx.ix2 (⟨b + (i 0).val, by omega⟩ : Fin 512) (i 1)
  have hq : (qtr o (a + b) hab).view.emb i = (half o a ha).view.emb j := by
    rw [qtr_emb, half_emb]
    show gIdx o (a + b + (i 0).val) _ (i 1) = gIdx o (a + (b + (i 0).val)) _ (i 1)
    congr 1; omega
  have hx : (xQtr (a + b) hab).view.emb i = (xHalf a ha).view.emb j := by
    funext k
    fin_cases k
    · refine Fin.ext ?_
      show (a + b) + 1 * (i 0).val = a + 1 * (b + (i 0).val)
      omega
    · rfl
  show f ((qtr o (a + b) hab).view.emb i) = m ((p : Thread nD τ).loc main_arg0) ((xQtr (a + b) hab).view.emb i)
  rw [hq, hx]
  exact congrFun h j

/-! ## The bands -/

/-- Whose block a band of device `c`'s buffers belongs to, at which row of it, and how many rows. -/
def bandO (c : Dev nD) : Fin 10 → Dev nD := ![c, c, prv c, nxt c, opp c, opp c, nxt c, prv c, nxt c, prv c]
def bandA : Fin 10 → ℕ := ![0, 512, 0, 512, 0, 512, 0, 512, 256, 768]
def bandL : Fin 10 → ℕ := ![512, 512, 512, 512, 512, 512, 256, 256, 256, 256]

theorem band_apart : ∀ (c : Dev nD) (k k' : Fin 10), k ≠ k' →
    bandO c k ≠ bandO c k' ∨ bandA k + bandL k ≤ bandA k' ∨ bandA k' + bandL k' ≤ bandA k := by decide
theorem band_le : ∀ k : Fin 10, bandA k + bandL k ≤ 1024 := by decide
theorem band_cover : ∀ (c o : Dev nD) (s : Fin 4), ∃ k : Fin 10, bandO c k = o ∧ bandA k ≤ 256 * s.val ∧ 256 * s.val + 256 ≤ bandA k + bandL k := by
  decide

/-- Rows `a` to `a + n` of device `o`'s block in the gathered matrix. -/
def rowsG (o : Dev nD) (a n : ℕ) : Finset S4x1024x4096.Idx :=
  Finset.univ.filter fun i => (i 0).val = o.val ∧ a ≤ (i 1).val ∧ (i 1).val < a + n
/-- Rows `a` to `a + n` of device `o`'s rows of the result. -/
def rowsO (o : Dev nD) (a n : ℕ) : Finset S4096x2048.Idx :=
  Finset.univ.filter fun i => 1024 * o.val + a ≤ (i 0).val ∧ (i 0).val < 1024 * o.val + a + n

theorem mem_rect3 {off size : Fin 3 → ℕ} {inb} {i : S4x1024x4096.Idx} :
    i ∈ (Rect.unit (s := S4x1024x4096) off size inb).set ↔ (off 0 ≤ (i 0).val ∧ (i 0).val < off 0 + size 0)
      ∧ (off 1 ≤ (i 1).val ∧ (i 1).val < off 1 + size 1) ∧ (off 2 ≤ (i 2).val ∧ (i 2).val < off 2 + size 2) := by
  rw [Rect.mem_set_unit]
  exact ⟨fun h => ⟨h 0, h 1, h 2⟩, fun h k => by fin_cases k; exacts [h.1, h.2.1, h.2.2]⟩
theorem mem_rect2 {s0 s1 : ℕ} {off size : Fin 2 → ℕ} {inb} {i : (⟨2, ![s0, s1]⟩ : Shape).Idx} :
    i ∈ (Rect.unit (s := ⟨2, ![s0, s1]⟩) off size inb).set ↔ (off 0 ≤ (i 0).val ∧ (i 0).val < off 0 + size 0)
      ∧ (off 1 ≤ (i 1).val ∧ (i 1).val < off 1 + size 1) := by
  rw [Rect.mem_set_unit]
  exact ⟨fun h => ⟨h 0, h 1⟩, fun h k => by fin_cases k; exacts [h.1, h.2]⟩

theorem half_set (o : Dev nD) (a : ℕ) (ha : a + 512 ≤ 1024) : (half o a ha).view.set = rowsG o a 512 := by
  rw [show (half o a ha).view.set = (Rect.unit (s := S4x1024x4096) ![o.val, a, 0] S1x512x4096.size (half_inb o a ha)).set from
    (View.set_reshape _ _).trans (View.set_slice_whole _ _)]
  ext i
  have h2 : (i 2).val < 4096 := (i 2).isLt
  rw [mem_rect3]
  unfold rowsG
  simp only [Finset.mem_filter, Finset.mem_univ, true_and]
  show (o.val ≤ (i 0).val ∧ (i 0).val < o.val + 1) ∧ (a ≤ (i 1).val ∧ (i 1).val < a + 512) ∧ (0 ≤ (i 2).val ∧ (i 2).val < 0 + 4096) ↔ _
  omega
theorem qtr_set (o : Dev nD) (a : ℕ) (ha : a + 256 ≤ 1024) : (qtr o a ha).view.set = rowsG o a 256 := by
  rw [show (qtr o a ha).view.set = (Rect.unit (s := S4x1024x4096) ![o.val, a, 0] S1x256x4096.size (qtr_inb o a ha)).set from
    (View.set_reshape _ _).trans (View.set_slice_whole _ _)]
  ext i
  have h2 : (i 2).val < 4096 := (i 2).isLt
  rw [mem_rect3]
  unfold rowsG
  simp only [Finset.mem_filter, Finset.mem_univ, true_and]
  show (o.val ≤ (i 0).val ∧ (i 0).val < o.val + 1) ∧ (a ≤ (i 1).val ∧ (i 1).val < a + 256) ∧ (0 ≤ (i 2).val ∧ (i 2).val < 0 + 4096) ↔ _
  omega
theorem oHalf_set (o : Dev nD) (a : ℕ) (ha : a + 512 ≤ 1024) : (oHalf o a ha).view.set = rowsO o a 512 := by
  rw [show (oHalf o a ha).view.set = (Rect.unit (s := S4096x2048) ![1024 * o.val + a, 0] S512x2048.size (oHalf_inb o a ha)).set from
    View.set_slice_whole _ _]
  ext i
  have h1 : (i 1).val < 2048 := (i 1).isLt
  rw [mem_rect2]
  unfold rowsO
  simp only [Finset.mem_filter, Finset.mem_univ, true_and]
  show (1024 * o.val + a ≤ (i 0).val ∧ (i 0).val < 1024 * o.val + a + 512) ∧ (0 ≤ (i 1).val ∧ (i 1).val < 0 + 2048) ↔ _
  omega
theorem oQtr_set (o : Dev nD) (a : ℕ) (ha : a + 256 ≤ 1024) : (oQtr o a ha).view.set = rowsO o a 256 := by
  rw [show (oQtr o a ha).view.set = (Rect.unit (s := S4096x2048) ![1024 * o.val + a, 0] S256x2048.size (oQtr_inb o a ha)).set from
    View.set_slice_whole _ _]
  ext i
  have h1 : (i 1).val < 2048 := (i 1).isLt
  rw [mem_rect2]
  unfold rowsO
  simp only [Finset.mem_filter, Finset.mem_univ, true_and]
  show (1024 * o.val + a ≤ (i 0).val ∧ (i 0).val < 1024 * o.val + a + 256) ∧ (0 ≤ (i 1).val ∧ (i 1).val < 0 + 2048) ↔ _
  omega

/-- Band `k` of device `c`'s gathered matrix, and of its result. -/
def bandG (c : Dev nD) (k : Fin 10) : Finset S4x1024x4096.Idx := rowsG (bandO c k) (bandA k) (bandL k)
def bandR (c : Dev nD) (k : Fin 10) : Finset S4096x2048.Idx := rowsO (bandO c k) (bandA k) (bandL k)

theorem bandG_disjoint (c : Dev nD) (k k' : Fin 10) (h : k ≠ k') : Disjoint (bandG c k) (bandG c k') := by
  refine Finset.disjoint_left.2 fun i hi hi' => ?_
  unfold bandG rowsG at hi hi'
  simp only [Finset.mem_filter, Finset.mem_univ, true_and] at hi hi'
  rcases band_apart c k k' h with ho | ho | ho
  · exact ho (Fin.ext (hi.1.symm.trans hi'.1))
  · omega
  · omega
theorem bandR_disjoint (c : Dev nD) (k k' : Fin 10) (h : k ≠ k') : Disjoint (bandR c k) (bandR c k') := by
  refine Finset.disjoint_left.2 fun i hi hi' => ?_
  unfold bandR rowsO at hi hi'
  simp only [Finset.mem_filter, Finset.mem_univ, true_and] at hi hi'
  have hk := band_le k
  have hk' := band_le k'
  rcases band_apart c k k' h with ho | ho | ho
  · have : (bandO c k).val ≠ (bandO c k').val := fun e => ho (Fin.ext e)
    omega
  · by_cases e : (bandO c k).val = (bandO c k').val <;> omega
  · by_cases e : (bandO c k).val = (bandO c k').val <;> omega
/-- Every row of the result is in a band. -/
theorem bandR_mem (c : Dev nD) (i : S4096x2048.Idx) : ∃ k, i ∈ bandR c k := by
  have hi : (i 0).val < 4096 := (i 0).isLt
  obtain ⟨k, ho, h1, h2⟩ := band_cover c ⟨(i 0).val / 1024, by show _ < 4; omega⟩ ⟨(i 0).val % 1024 / 256, by omega⟩
  refine ⟨k, ?_⟩
  unfold bandR rowsO
  simp only [Finset.mem_filter, Finset.mem_univ, true_and]
  rw [ho]
  dsimp only at h1 h2 ⊢
  omega
theorem bandR_cover (c : Dev nD) : Finset.univ.biUnion (bandR c) = Finset.univ := by
  refine Finset.eq_univ_of_forall fun i => ?_
  obtain ⟨k, hk⟩ := bandR_mem c i
  exact Finset.mem_biUnion.2 ⟨k, Finset.mem_univ _, hk⟩

/-! ## What the result holds, band by band -/

/-- The window of 512 rows from row `a` of device `o`'s rows holds those rows of `x` times device `c`'s block of `w`. -/
def HalfAt (c o : Dev nD) (a : ℕ) (ha : a + 512 ≤ 1024) (f : (main_v1_0 : Ref sig .tc).ty.Contents (Elt F)) : Prop :=
  (oHalf o a ha).view.read (Elt F) f = prodH (xH m o a ha) (wL m c)
/-- The window of 256 rows from row `a` of device `o`'s rows holds those rows of `x` times device `c`'s block of `w`. -/
def QtrAt (c o : Dev nD) (a : ℕ) (ha : a + 256 ≤ 1024) (f : (main_v1_0 : Ref sig .tc).ty.Contents (Elt F)) : Prop :=
  (oQtr o a ha).view.read (Elt F) f = prodQ (xQ m o a ha) (wL m c)

/-- Band `k` of the result on device `c` is the product of those rows of `x` and device `c`'s block of `w`. -/
def InBand (c : Dev nD) (k : Fin 10) (f : (main_v1_0 : Ref sig .tc).ty.Contents (Elt F)) : Prop :=
  (bandL k = 512 → ∀ ha, HalfAt m c (bandO c k) (bandA k) ha f) ∧ (bandL k = 256 → ∀ ha, QtrAt m c (bandO c k) (bandA k) ha f)

/-- The whole result of device `c`. -/
def Spec (c : Dev nD) (f : (main_v1_0 : Ref sig .tc).ty.Contents (Elt F)) : Prop := ∀ k, InBand m c k f

/-- Only the band's own elements matter. -/
theorem inBand_congr (c : Dev nD) (k : Fin 10) (f g : (main_v1_0 : Ref sig .tc).ty.Contents (Elt F))
    (h : ∀ i ∈ bandR c k, g i = f i) (hf : InBand m c k f) : InBand m c k g := by
  refine ⟨fun hl ha => ?_, fun hl ha => ?_⟩
  · exact (funext fun i => h _ (by
      unfold bandR; rw [hl, ← oHalf_set _ _ ha]; exact Finset.mem_map_of_mem _ (Finset.mem_univ _))).trans (hf.1 hl ha)
  · exact (funext fun i => h _ (by
      unfold bandR; rw [hl, ← oQtr_set _ _ ha]; exact Finset.mem_map_of_mem _ (Finset.mem_univ _))).trans (hf.2 hl ha)

section Logic

variable {Ix : Type} [DecidableEq Ix] {Name : Type} [DecidableEq Name] {U : Type} [URA U] {Lvl : Type}
local notation "𝕄" => MT nD τ sig Ix (Elt F) Name U Lvl

/-- The parts of the buffers as their rows. -/
theorem free_half (c o : Dev nD) (a : ℕ) (ha : a + 512 ≤ 1024) : (free (c : Thread nD τ) (half o a ha) : sProp 𝕄)
    = iprop(∃ f, (((c : Thread nD τ).loc main_v1_1) ↦[rowsG o a 512]{fullShare} f)) := by
  rw [← half_set o a ha]; rfl
theorem free_qtr (c o : Dev nD) (a : ℕ) (ha : a + 256 ≤ 1024) : (free (c : Thread nD τ) (qtr o a ha) : sProp 𝕄)
    = iprop(∃ f, (((c : Thread nD τ).loc main_v1_1) ↦[rowsG o a 256]{fullShare} f)) := by
  rw [← qtr_set o a ha]; rfl
theorem free_oHalf (c o : Dev nD) (a : ℕ) (ha : a + 512 ≤ 1024) : (free (c : Thread nD τ) (oHalf o a ha) : sProp 𝕄)
    = iprop(∃ f, (((c : Thread nD τ).loc main_v1_0) ↦[rowsO o a 512]{fullShare} f)) := by
  rw [← oHalf_set o a ha]; rfl
theorem free_oQtr (c o : Dev nD) (a : ℕ) (ha : a + 256 ≤ 1024) : (free (c : Thread nD τ) (oQtr o a ha) : sProp 𝕄)
    = iprop(∃ f, (((c : Thread nD τ).loc main_v1_0) ↦[rowsO o a 256]{fullShare} f)) := by
  rw [← oQtr_set o a ha]; rfl
theorem owns_oHalf (c o : Dev nD) (a : ℕ) (ha : a + 512 ≤ 1024) (X : S512x2048.Idx → Elt F .f32) :
    (owns (c : Thread nD τ) (oHalf o a ha) fullShare X : sProp 𝕄)
      = iprop(∃ f, ⌜(oHalf o a ha).view.read (Elt F) f = X⌝ ∗ (((c : Thread nD τ).loc main_v1_0) ↦[rowsO o a 512]{fullShare} f)) := by
  rw [← oHalf_set o a ha]; rfl
theorem owns_oQtr (c o : Dev nD) (a : ℕ) (ha : a + 256 ≤ 1024) (X : S256x2048.Idx → Elt F .f32) :
    (owns (c : Thread nD τ) (oQtr o a ha) fullShare X : sProp 𝕄)
      = iprop(∃ f, ⌜(oQtr o a ha).view.read (Elt F) f = X⌝ ∗ (((c : Thread nD τ).loc main_v1_0) ↦[rowsO o a 256]{fullShare} f)) := by
  rw [← oQtr_set o a ha]; rfl

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- A window of 512 rows at its product is band `k` at its product, where the two are the same rows. -/
theorem band_of_half (c o : Dev nD) (a : ℕ) (ha : a + 512 ≤ 1024) (k : Fin 10) (ho : bandO c k = o) (hA : bandA k = a) (hL : bandL k = 512) :
    (owns (c : Thread nD τ) (oHalf o a ha) fullShare (prodH (xH m o a ha) (wL m c)) : sProp 𝕄)
      ⊢ iprop(∃ f, ⌜InBand m c k f⌝ ∗ (((c : Thread nD τ).loc main_v1_0) ↦[bandR c k]{fullShare} f)) := by
  subst ho hA
  rw [owns_oHalf]
  unfold bandR
  rw [hL]
  iintro ⟨%f, %hf, H⟩
  iexists f
  isplitr
  · ipureintro; exact ⟨fun _ _ => hf, fun h => absurd (h.symm.trans hL) (by decide)⟩
  · iexact H

/-- The same for 256 rows. -/
theorem band_of_qtr (c o : Dev nD) (a : ℕ) (ha : a + 256 ≤ 1024) (k : Fin 10) (ho : bandO c k = o) (hA : bandA k = a) (hL : bandL k = 256) :
    (owns (c : Thread nD τ) (oQtr o a ha) fullShare (prodQ (xQ m o a ha) (wL m c)) : sProp 𝕄)
      ⊢ iprop(∃ f, ⌜InBand m c k f⌝ ∗ (((c : Thread nD τ).loc main_v1_0) ↦[bandR c k]{fullShare} f)) := by
  subst ho hA
  rw [owns_oQtr]
  unfold bandR
  rw [hL]
  iintro ⟨%f, %hf, H⟩
  iexists f
  isplitr
  · ipureintro; exact ⟨fun h => absurd (h.symm.trans hL) (by decide), fun _ _ => hf⟩
  · iexact H

/-- The gathered matrix of device `c`, at any contents, gives the bands that others write. -/
theorem gathered_split (c : Dev nD) (f : Buf (Elt F) ((c : Thread nD τ).loc main_v1_1)) :
    ((((c : Thread nD τ).loc main_v1_1) ↦{fullShare} f) : sProp 𝕄)
      ⊢ iprop((free (c : Thread nD τ) (half (prv c) 0) ∗ free (c : Thread nD τ) (half (opp c) 0)
            ∗ free (c : Thread nD τ) (qtr (nxt c) 0) ∗ free (c : Thread nD τ) (qtr (nxt c) 256))
          ∗ (free (c : Thread nD τ) (half (nxt c) 512) ∗ free (c : Thread nD τ) (half (opp c) 512)
            ∗ free (c : Thread nD τ) (qtr (prv c) 512) ∗ free (c : Thread nD τ) (qtr (prv c) 768))) := by
  simp only [free_half, free_qtr]
  iintro H
  ihave H := (whole_take (ℓ := (c : Thread nD τ).loc main_v1_1) (bandG c) (bandG_disjoint c) f) $$ H
  ihave H := (Entails.of_eq (bigSep_fin10 _)) $$ H
  icases H with ⟨-, -, H2, H3, H4, H5, H6, H7, H8, H9⟩
  isplitl [H2 H4 H6 H8]
  · isplitl [H2]; · iexact H2
    isplitl [H4]; · iexact H4
    isplitl [H6]; · iexact H6
    iexact H8
  · isplitl [H3]; · iexact H3
    isplitl [H5]; · iexact H5
    isplitl [H7]; · iexact H7
    iexact H9

/-- The result of device `c`, at any contents, is its ten windows. -/
theorem result_split (c : Dev nD) (f : Buf (Elt F) ((c : Thread nD τ).loc main_v1_0)) :
    ((((c : Thread nD τ).loc main_v1_0) ↦{fullShare} f) : sProp 𝕄)
      ⊢ iprop(free (c : Thread nD τ) (oHalf c 0) ∗ free (c : Thread nD τ) (oHalf c 512)
          ∗ free (c : Thread nD τ) (oHalf (prv c) 0) ∗ free (c : Thread nD τ) (oHalf (nxt c) 512)
          ∗ free (c : Thread nD τ) (oHalf (opp c) 0) ∗ free (c : Thread nD τ) (oHalf (opp c) 512)
          ∗ free (c : Thread nD τ) (oQtr (nxt c) 0) ∗ free (c : Thread nD τ) (oQtr (prv c) 512)
          ∗ free (c : Thread nD τ) (oQtr (nxt c) 256) ∗ free (c : Thread nD τ) (oQtr (prv c) 768)) := by
  simp only [free_oHalf, free_oQtr]
  iintro H
  ihave H := (whole_take (ℓ := (c : Thread nD τ).loc main_v1_0) (bandR c) (bandR_disjoint c) f) $$ H
  ihave H := (Entails.of_eq (bigSep_fin10 _)) $$ H
  iexact H

/-- The ten windows, each at its product, are the result. -/
theorem result_join (c : Dev nD) :
    (iprop(owns (c : Thread nD τ) (oHalf c 0) fullShare (prodH (xH m c 0) (wL m c))
        ∗ owns (c : Thread nD τ) (oHalf c 512) fullShare (prodH (xH m c 512) (wL m c))
        ∗ owns (c : Thread nD τ) (oHalf (prv c) 0) fullShare (prodH (xH m (prv c) 0) (wL m c))
        ∗ owns (c : Thread nD τ) (oHalf (nxt c) 512) fullShare (prodH (xH m (nxt c) 512) (wL m c))
        ∗ owns (c : Thread nD τ) (oHalf (opp c) 0) fullShare (prodH (xH m (opp c) 0) (wL m c))
        ∗ owns (c : Thread nD τ) (oHalf (opp c) 512) fullShare (prodH (xH m (opp c) 512) (wL m c))
        ∗ owns (c : Thread nD τ) (oQtr (nxt c) 0) fullShare (prodQ (xQ m (nxt c) 0) (wL m c))
        ∗ owns (c : Thread nD τ) (oQtr (prv c) 512) fullShare (prodQ (xQ m (prv c) 512) (wL m c))
        ∗ owns (c : Thread nD τ) (oQtr (nxt c) 256) fullShare (prodQ (xQ m (nxt c) 256) (wL m c))
        ∗ owns (c : Thread nD τ) (oQtr (prv c) 768) fullShare (prodQ (xQ m (prv c) 768) (wL m c))) : sProp 𝕄)
      ⊢ iprop(∃ f, ⌜Spec m c f⌝ ∗ (((c : Thread nD τ).loc main_v1_0) ↦{fullShare} f)) := by
  iintro ⟨H0, H1, H2, H3, H4, H5, H6, H7, H8, H9⟩
  iapply (whole_join (ℓ := (c : Thread nD τ).loc main_v1_0) (bandR c) (bandR_disjoint c) (bandR_cover c)
    (InBand m c) (inBand_congr m c) (m ((c : Thread nD τ).loc main_v1_0)))
  iapply (Entails.of_eq (bigSep_fin10 (fun k => (iprop(∃ f, ⌜InBand m c k f⌝ ∗ (((c : Thread nD τ).loc main_v1_0) ↦[bandR c k]{fullShare} f)) : sProp 𝕄))).symm)
  isplitl [H0]; · iapply (band_of_half m c c 0 (by decide) 0 rfl (by decide) (by decide)); iexact H0
  isplitl [H1]; · iapply (band_of_half m c c 512 (by decide) 1 rfl (by decide) (by decide)); iexact H1
  isplitl [H2]; · iapply (band_of_half m c (prv c) 0 (by decide) 2 rfl (by decide) (by decide)); iexact H2
  isplitl [H3]; · iapply (band_of_half m c (nxt c) 512 (by decide) 3 rfl (by decide) (by decide)); iexact H3
  isplitl [H4]; · iapply (band_of_half m c (opp c) 0 (by decide) 4 rfl (by decide) (by decide)); iexact H4
  isplitl [H5]; · iapply (band_of_half m c (opp c) 512 (by decide) 5 rfl (by decide) (by decide)); iexact H5
  isplitl [H6]; · iapply (band_of_qtr m c (nxt c) 0 (by decide) 6 rfl (by decide) (by decide)); iexact H6
  isplitl [H7]; · iapply (band_of_qtr m c (prv c) 512 (by decide) 7 rfl (by decide) (by decide)); iexact H7
  isplitl [H8]; · iapply (band_of_qtr m c (nxt c) 256 (by decide) 8 rfl (by decide) (by decide)); iexact H8
  iapply (band_of_qtr m c (prv c) 768 (by decide) 9 rfl (by decide) (by decide)); iexact H9

end Logic

end Cert.KernelIdealRing
-- ==== Proof.KernelIdealProto.lean ====
/-
The protocol between the four devices. Every device's barrier semaphore is raised once by each neighbour, which hands over
the bands of its gathered matrix that the device will write; every transfer hands over the band it filled. What a device
owes, in the order in which it pays, and the levels by which no wait can be part of a circle. The rules for a wait on one
of the protocol's semaphores, for a transfer and for a signal.
-/
module

public import proofs.«01_k».proof.Proof.KernelIdealBands

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra -/

/-- The ring's duties, two names for each round of a cell. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's duties: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of copies in flight inside a device. -/
abbrev EC : UEmb Counters (MT nD τ sig Unit (Elt F) ℕ UU ℕ) := countersEmb

abbrev 𝒱₀ : Variants := Variants.none

variable (m : (ℓ : Loc nD τ sig) → Buf (Elt F) ℓ)

/-! ## The schedule -/

def ring : Dev nD ≃ Dev nD := ⟨nxt, prv, prv_nxt, nxt_prv⟩

/-- The units of a half's transfer, and of a quarter's. -/
abbrev NH : ℕ := (half 0 0).view.dmaCredit
abbrev NQ : ℕ := (qtr 0 0).view.dmaCredit
theorem NH_pos : 0 < NH := View.dmaCredit_pos _ (by decide)
theorem NQ_pos : 0 < NQ := View.dmaCredit_pos _ (by decide)

/-- The units of one duty of a semaphore. -/
def amt : SemLoc sig → ℕ
  | .reg _ => 1
  | .dma q => if q.val % 4 < 2 then NH else NQ
theorem amt_pos (s : SemLoc sig) : 0 < amt s := by
  cases s with
  | reg _ => exact Nat.one_pos
  | dma q =>
    show 0 < (if q.val % 4 < 2 then NH else NQ)
    split
    · exact NH_pos
    · exact NQ_pos

/-- The bands of device `d`'s gathered matrix that the device before it writes, -/
def rightGive (d : Dev nD) : sProp 𝕄 :=
  iprop(free (d : Thread nD τ) (half (prv d) 0) ∗ free (d : Thread nD τ) (half (opp d) 0)
    ∗ free (d : Thread nD τ) (qtr (nxt d) 0) ∗ free (d : Thread nD τ) (qtr (nxt d) 256))
/-- and those that the device after it writes. -/
def leftGive (d : Dev nD) : sProp 𝕄 :=
  iprop(free (d : Thread nD τ) (half (nxt d) 512) ∗ free (d : Thread nD τ) (half (opp d) 512)
    ∗ free (d : Thread nD τ) (qtr (prv d) 512) ∗ free (d : Thread nD τ) (qtr (prv d) 768))

/-- What lands with each of device `c`'s transfer semaphores: the band that was filled, with its rows of `x`. -/
def pay (c : Dev nD) : ℕ → sProp 𝕄
  | 4 => owns (c : Thread nD τ) (half (prv c) 0) fullShare (xH m (prv c) 0)
  | 5 => owns (c : Thread nD τ) (half (opp c) 0) fullShare (xH m (opp c) 0)
  | 6 => owns (c : Thread nD τ) (qtr (nxt c) 0) fullShare (xQ m (nxt c) 0)
  | 7 => owns (c : Thread nD τ) (qtr (nxt c) 256) fullShare (xQ m (nxt c) 256)
  | 12 => owns (c : Thread nD τ) (half (nxt c) 512) fullShare (xH m (nxt c) 512)
  | 13 => owns (c : Thread nD τ) (half (opp c) 512) fullShare (xH m (opp c) 512)
  | 14 => owns (c : Thread nD τ) (qtr (prv c) 512) fullShare (xQ m (prv c) 512)
  | 15 => owns (c : Thread nD τ) (qtr (prv c) 768) fullShare (xQ m (prv c) 768)
  | _ => iprop(emp)

instance pay_storable (c : Dev nD) (n : ℕ) : BI.Storable (upEmb : UEmb _ 𝕄) (pay (F := F) m c n) := by
  unfold pay; split <;> infer_instance

/-- The duties of a cell's one round: both of a barrier's, one of each of the first sixteen transfer semaphores'. -/
def dutiesOf : SemLoc sig → Finset Bool
  | .reg s => if s = barS then Finset.univ else ∅
  | .dma q => if q.val < 16 then {false} else ∅
def payOf (c : Dev nD) : SemLoc sig → Bool → sProp 𝕄
  | .reg _, false => rightGive (nxt c)
  | .reg _, true => leftGive (prv c)
  | .dma q, _ => pay m c q.val

instance payOf_storable (c : Dev nD) (s : SemLoc sig) (d : Bool) : BI.Storable (upEmb : UEmb _ 𝕄) (payOf (F := F) m c s d) := by
  cases s with
  | reg _ => cases d <;> (unfold payOf rightGive leftGive; infer_instance)
  | dma q => unfold payOf; infer_instance

/-- One round for every cell of a core. -/
def ringRd : Rounds.Schedule (GSem nD τ sig) Bool 𝕄 where
  duties g r := if r = 0 ∧ g.1.2 = .tc then dutiesOf g.2 else ∅
  unitless _ := False
  amount g _ _ := amt g.2
  payload g _ d := payOf m g.1.1 g.2 d
  amount_pos g _ _ _ := amt_pos g.2

instance ringRd_payload_storable (g : GSem nD τ sig) (r : ℕ) (d : Bool) :
    BI.Storable (upEmb : UEmb _ 𝕄) ((ringRd (F := F) m).payload g r d) := by
  show BI.Storable upEmb (payOf m g.1.1 g.2 d); infer_instance

theorem duties_at (c : Dev nD) (s : SemLoc sig) : (ringRd (F := F) m).duties ((c : Thread nD τ), s) 0 = dutiesOf s :=
  by dsimp only [ringRd]; exact if_pos ⟨rfl, rfl⟩
theorem duties_later (g : GSem nD τ sig) : ∀ r, 1 ≤ r → (ringRd (F := F) m).duties g r = ∅ :=
  by intro r hr; dsimp only [ringRd]; exact if_neg fun h => by have := h.1; omega
theorem duties_dma (c : Dev nD) (q : DmaSem sig) (hq : q.val < 16) :
    (ringRd (F := F) m).duties ((c : Thread nD τ), .dma q) 0 = {false} := (duties_at m c _).trans (by dsimp only [dutiesOf]; exact if_pos hq)
theorem duties_bar (c : Dev nD) : (ringRd (F := F) m).duties ((c : Thread nD τ), .reg barS) 0 = Finset.univ :=
  (duties_at m c _).trans (by dsimp only [dutiesOf]; exact if_pos rfl)

theorem expect_dma (c : Dev nD) (q : DmaSem sig) (hq : q.val < 16) :
    (ringRd (F := F) m).expect ((c : Thread nD τ), .dma q) 0 = amt (.dma q) := by
  unfold Schedule.expect Schedule.amountOf
  rw [duties_dma m c q hq, Finset.sum_singleton]; rfl
theorem expect_bar (c : Dev nD) : (ringRd (F := F) m).expect ((c : Thread nD τ), .reg barS) 0 = 2 := by
  unfold Schedule.expect Schedule.amountOf
  rw [duties_bar]; rfl

theorem rest_dma (c : Dev nD) (q : DmaSem sig) (hq : q.val < 16) :
    bigSep ((ringRd (F := F) m).duties ((c : Thread nD τ), .dma q) 0 \ ∅) (fun d => (ringRd (F := F) m).payload ((c : Thread nD τ), .dma q) 0 d)
      = pay m c q.val := by
  rw [Finset.sdiff_empty, duties_dma m c q hq, bigSep_singleton]; rfl
theorem rest_bar (c : Dev nD) :
    bigSep ((ringRd (F := F) m).duties ((c : Thread nD τ), .reg barS) 0 \ ∅) (fun d => (ringRd (F := F) m).payload ((c : Thread nD τ), .reg barS) 0 d)
      = iprop(rightGive (nxt c) ∗ leftGive (prv c)) := by
  rw [Finset.sdiff_empty, duties_bar, bigSep_univ_eq_bigSepL [false, true] (by decide) (by decide), bigSepL_cons_cons, bigSepL_singleton]
  rfl

theorem payload_bar (p : Dev nD) (d : Bool) :
    (payOf m p (.reg barS) d : sProp 𝕄) ⊢ (ringRd (F := F) m).payload ((p : Thread nD τ), .reg barS) 0 d := Entails.of_eq rfl

/-! ## The duties by number -/

/-- Duty `j` belongs to semaphore `j` of the first sixteen transfer semaphores, and the last two to the barrier. -/
def dutySem (j : Fin 18) : SemLoc sig := if h : j.val < 16 then .dma (ds j.val (by omega)) else .reg barS
def dutyFlag (j : Fin 18) : Bool := j.val == 17
/-- Whose cell a device pays duty `j` to. -/
def payee (j : Fin 18) : Dev nD ≃ Dev nD :=
  if j.val ∈ [4, 5, 6, 7, 17] then ring else if j.val ∈ [12, 13, 14, 15, 16] then ring.symm else Equiv.refl _

/-- The cells of the ring on one device: the sixteen transfer semaphores, and the barrier. -/
def csem (k : Fin 17) : SemLoc sig := if h : k.val < 16 then .dma (ds k.val (by omega)) else .reg barS
abbrev kcell (ck : Dev nD × Fin 17) : GSem nD τ sig := ((ck.1 : Thread nD τ), csem ck.2)

/-! ## What a device owes -/

/-- The duties a device owes at launch, the one it pays last first. -/
def debtDuty : Fin 10 → Fin 18 := ![15, 14, 7, 6, 13, 5, 12, 4, 17, 16]
/-- The cell of the `n`-th debt and its amount. -/
def target (c : Dev nD) (n : Fin 10) : GSem nD τ sig := ((payee (debtDuty n) c : Thread nD τ), dutySem (debtDuty n))
def debtAt (c : Dev nD) (n : ℕ) : CellTallies nD τ sig Unit :=
  if h : n < 10 then tallyAt (target c ⟨n, h⟩) () (amt (dutySem (debtDuty ⟨n, h⟩))) else 0
/-- What is still owed when `n` debts are left. -/
def owed (c : Dev nD) : ℕ → CellTallies nD τ sig Unit
  | 0 => 0
  | n + 1 => owed c n + debtAt c n
def O₀ (c : Dev nD) : CellTallies nD τ sig Unit := owed c 10

theorem owed_pos (c : Dev nD) : ∀ (n : ℕ) (g : GSem nD τ sig) (u : Unit), 0 < owed c n g u → ∃ i : Fin 10, i.val < n ∧ g = target c i
  | 0, g, u, h => absurd h (Nat.lt_irrefl 0)
  | n + 1, g, u, h => by
    rw [show owed c (n + 1) = owed c n + debtAt c n from rfl, Pi.add_apply, Finsupp.add_apply] at h
    by_cases h0 : 0 < owed c n g u
    · obtain ⟨i, hi, hg⟩ := owed_pos c n g u h0
      exact ⟨i, Nat.lt_succ_of_lt hi, hg⟩
    · have h1 : 0 < debtAt c n g u := by omega
      unfold debtAt at h1
      split at h1
      · next hn =>
        rw [tallyAt_apply] at h1
        by_cases hc : g = target c ⟨n, hn⟩ ∧ u = ()
        · exact ⟨⟨n, hn⟩, Nat.lt_succ_self n, hc.1⟩
        · rw [if_neg hc] at h1; exact absurd h1 (Nat.lt_irrefl 0)
      · exact absurd h1 (Nat.lt_irrefl 0)

/-! ## Levels -/

def L (g : GSem nD τ sig) : Finset Unit := if g.1.2 = .tc then {()} else ∅
/-- Barrier below the first step's receives, those below the second's, those below the quarters'; all else below. -/
def lvS : SemLoc sig → ℕ
  | .reg _ => 1
  | .dma q => if q.val = 4 ∨ q.val = 12 then 2 else if q.val = 5 ∨ q.val = 13 then 3
      else if q.val = 6 ∨ q.val = 7 ∨ q.val = 14 ∨ q.val = 15 then 4 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A semaphore below every debt among the last `n` may be waited for while they are left. -/
def Below (sm : SemLoc sig) (n : ℕ) : Prop := ∀ i : Fin 10, i.val < n → lvS sm < lvS (dutySem (debtDuty i))
instance (sm : SemLoc sig) (n : ℕ) : Decidable (Below sm n) := by unfold Below; infer_instance

theorem mayWait (c : Dev nD) (sm : SemLoc sig) (n : ℕ) (h : Below sm n) :
    (levAts L lv : sProp 𝕄) ⊢ MayWait (c : Thread nD τ) sm () (owed c n) :=
  MayOwe.of_cut (L := L) (lev := lv) (lvS sm)
    (fun p hp => by rw [Finset.mem_singleton.mp hp, L_tc]; exact Finset.mem_singleton_self _)
    (fun g u hg => by
      obtain ⟨i, _, rfl⟩ := owed_pos c n g u hg
      unfold target; rw [L_tc]; exact Finset.mem_singleton_self _)
    (fun p hp => by rw [Finset.mem_singleton.mp hp]; exact le_refl _)
    (fun g u hg => by
      obtain ⟨i, hi, rfl⟩ := owed_pos c n g u hg
      exact h i hi)

/-! ## Ghost state -/

/-- All cells' invariants, and that every cell is at its round. -/
def records (K : Dev nD × Fin 17 → ℕ) : sProp 𝕄 :=
  iprop((bigSep Finset.univ fun ck : Dev nD × Fin 17 => cellInv ER (ringRd m) (K ck) (kcell ck))
    ∗ bigSep Finset.univ fun ck : Dev nD × Fin 17 => reached ER (kcell ck) 0)

instance records_persistent (K : Dev nD × Fin 17 → ℕ) : BI.Persistent (records (F := F) m K) := by unfold records; infer_instance

theorem inv_at (K : Dev nD × Fin 17 → ℕ) (ck : Dev nD × Fin 17) :
    (records m K : sProp 𝕄) ⊢ cellInv ER (ringRd m) (K ck) (kcell ck) := by
  unfold records
  iintro ⟨H, -⟩
  iapply (show (bigSep Finset.univ fun ck : Dev nD × Fin 17 => (cellInv ER (ringRd m) (K ck) (kcell ck) : sProp 𝕄)) ⊢ cellInv ER (ringRd m) (K ck) (kcell ck) from bigSep_elim (Finset.mem_univ ck))
  iexact H
theorem reached_at (K : Dev nD × Fin 17 → ℕ) (ck : Dev nD × Fin 17) :
    (records m K : sProp 𝕄) ⊢ reached ER (kcell ck) 0 := by
  unfold records
  iintro ⟨-, H⟩
  iapply (show (bigSep Finset.univ fun ck : Dev nD × Fin 17 => (reached ER (kcell ck) 0 : sProp 𝕄)) ⊢ reached ER (kcell ck) 0 from bigSep_elim (Finset.mem_univ ck))
  iexact H

/-- The number of a transfer semaphore's cell. -/
abbrev cK (q : DmaSem sig) (hq : q.val < 16) : Fin 17 := ⟨q.val, by omega⟩
theorem csem_cK (q : DmaSem sig) (hq : q.val < 16) : csem (cK q hq) = .dma q := dif_pos hq
theorem csem_bar : csem 16 = .reg barS := rfl

/-- The cell of a transfer semaphore, of the barrier. -/
abbrev dcell (c : Dev nD) (q : DmaSem sig) : GSem nD τ sig := ((c : Thread nD τ), SemLoc.dma q)
abbrev bcell (c : Dev nD) : GSem nD τ sig := ((c : Thread nD τ), SemLoc.reg barS)

theorem inv_dma (K : Dev nD × Fin 17 → ℕ) (c : Dev nD) (q : DmaSem sig) (hq : q.val < 16) :
    (records m K : sProp 𝕄) ⊢ cellInv ER (ringRd m) (K (c, cK q hq)) (dcell c q) := by
  have h := inv_at m K (c, cK q hq)
  unfold kcell at h
  rw [csem_cK q hq] at h
  exact h
theorem reached_dma (K : Dev nD × Fin 17 → ℕ) (c : Dev nD) (q : DmaSem sig) (hq : q.val < 16) :
    (records m K : sProp 𝕄) ⊢ reached ER (dcell c q) 0 := by
  have h := reached_at m K (c, cK q hq)
  unfold kcell at h
  rw [csem_cK q hq] at h
  exact h

/-- What device `c` owes with `n` debts left. -/
def debt (c : Dev nD) (n : ℕ) : sProp 𝕄 := iprop(∃ W, owes (c : Thread nD τ) (owed c n) W)

/-! ## The rules -/

/-- A wait for one of the device's own transfers that take part in the protocol: what has landed, and the counter, for
    good at zero. -/
theorem wp_wait_ring {Q : PUnit → sProp 𝕄} (K : Dev nD × Fin 17 → ℕ) (c : Dev nD) (k : Pg F) {sp sp' : Space} {s s' : Shape} (q : DmaSem sig) (hq : q.val < 16) (n : ℕ) (hlv : Below (.dma q) n)
    {src : Memref sig .tc sp s .f32} {dst : Memref sig .tc sp' s' .f32} (hN : dst.view.dmaCredit = amt (.dma q)) :
    iprop(records m K ∗ levAts L lv ∗ cred (tallyAt (dcell c q) () (amt (.dma q))) ∗ debt c n ∗ atPos ER (dcell c q) 0 ∅ 0)
      ⊢ iprop(((debt c n ∗ semVal (dcell c q) 0 ∗ pay m c q.val)
            -∗ wp frame (wpE (defs₀ (F := F)) 𝒱₀ (c : Thread nD τ) none) Set.univ k Q)
          -∗ wp frame (wpE (defs₀ (F := F)) 𝒱₀ (c : Thread nD τ) none) Set.univ (await q src dst k) Q) := by
  unfold debt
  iintro ⟨#HR, #Hlev, Hc, ⟨%W, HO⟩, Hat⟩ Hk
  ihave #HI := (inv_dma m K c q hq) $$ HR
  rw [← hN]
  iapply (Rounds.wp_wait_rest_token 𝒱₀ ER (ringRd m) (c : Thread nD τ) none (κ := K (c, cK q hq))
      (wpE_waitDma2_eq 𝒱₀ (c : Thread nD τ) none Set.univ) (Set.mem_univ _) () (O := owed c n) (W := W) (R := 0) (m := 0) (T := ∅)
      (by rw [Nat.zero_add, expect_dma m c q hq, hN])) $$ [Hc HO Hat]
  · isplitr; · iexact HI
    isplitl [Hc]; · iexact Hc
    isplitl [HO]; · iexact HO
    isplitr; · iapply (mayWait c (.dma q) n hlv); iexact Hlev
    iexact Hat
  iintro ⟨HO, Hat, -, Hpay⟩
  ihave Hpay := (Entails.of_eq (rest_dma m c q hq)) $$ Hpay
  imod (Rounds.cell_close ER (ringRd m) (Set.mem_univ (K (c, cK q hq))) (fun h => h) (R := 0 + 1) (duties_later m (dcell c q))) $$ [Hat] with Hz
  · isplitr; · iexact HI
    iexact Hat
  iapply Hk
  isplitl [HO]; · iexists _; iexact HO
  isplitl [Hz]; · iexact Hz
  iexact Hpay

/-- The wait on the device's own barrier: the bands of both neighbours' gathered matrices that it will write. -/
theorem wp_wait_bar {Q : PUnit → sProp 𝕄} (K : Dev nD × Fin 17 → ℕ) (c : Dev nD) (k : Pg F) (n : ℕ) (hlv : Below (.reg barS) n) :
    iprop(records m K ∗ levAts L lv ∗ cred (tallyAt (bcell c) () 2) ∗ debt c n ∗ atPos ER (bcell c) 0 ∅ 0)
      ⊢ iprop(((debt c n ∗ semVal (bcell c) 0 ∗ rightGive (nxt c) ∗ leftGive (prv c))
            -∗ wp frame (wpE (defs₀ (F := F)) 𝒱₀ (c : Thread nD τ) none) Set.univ k Q)
          -∗ wp frame (wpE (defs₀ (F := F)) 𝒱₀ (c : Thread nD τ) none) Set.univ (.op (.semWait barS 2) fun _ => k) Q) := by
  unfold debt
  iintro ⟨#HR, #Hlev, Hc, ⟨%W, HO⟩, Hat⟩ Hk
  ihave #HI := (inv_at m K (c, 16)) $$ HR
  iapply (Rounds.wp_wait_rest_token 𝒱₀ ER (ringRd m) (c : Thread nD τ) none (κ := K (c, 16))
      (wpE_semWait_eq 𝒱₀ (c : Thread nD τ) none Set.univ) (Set.mem_univ _) () (O := owed c n) (W := W) (R := 0) (m := 0) (T := ∅)
      (by rw [Nat.zero_add, expect_bar m c])) $$ [Hc HO Hat]
  · isplitr; · iexact HI
    isplitl [Hc]; · iexact Hc
    isplitl [HO]; · iexact HO
    isplitr; · iapply (mayWait c (.reg barS) n hlv); iexact Hlev
    iexact Hat
  iintro ⟨HO, Hat, -, Hpay⟩
  ihave Hpay := (Entails.of_eq (rest_bar m c)) $$ Hpay
  imod (Rounds.cell_close ER (ringRd m) (Set.mem_univ (K (c, 16))) (fun h => h) (R := 0 + 1) (duties_later m (bcell c))) $$ [Hat] with Hz
  · isplitr; · iexact HI
    iexact Hat
  iapply Hk
  isplitl [HO]; · iexists _; iexact HO
  isplitl [Hz]; · iexact Hz
  iexact Hpay

/-- A signal to a neighbour's barrier, which pays one of its two duties. -/
theorem wp_signal_ring {Q : PUnit → sProp 𝕄} (K : Dev nD × Fin 17 → ℕ) (c : Dev nD) (k : Pg F) (p : Dev nD) (d : Bool) (n : ℕ) (hO : owed c (n + 1) = owed c n + tallyAt (bcell p) () 1) :
    iprop(records m K ∗ debt c (n + 1) ∗ dutyTok ER (bcell p) 0 d ∗ payOf m p (.reg barS) d)
      ⊢ iprop((debt c n -∗ wp frame (wpE (defs₀ (F := F)) 𝒱₀ (c : Thread nD τ) none) Set.univ k Q)
          -∗ wp frame (wpE (defs₀ (F := F)) 𝒱₀ (c : Thread nD τ) none) Set.univ (.op (.semSignal (p : Thread nD τ) barS 1) fun _ => k) Q) := by
  unfold debt
  iintro ⟨#HR, ⟨%W, HO⟩, Ht, Hp⟩ Hk
  iapply (Rounds.wp_signal 𝒱₀ ER (ringRd m) (c : Thread nD τ) none (dst := (p : Thread nD τ)) (κ := K (p, 16)) (r := 0)
      (d := d) (by rw [duties_bar]; exact Finset.mem_univ _) (k' := 1) rfl () (owed c n) hO) $$ [HO Ht Hp]
  · isplitr; · iapply (inv_at m K (p, 16)); iexact HR
    isplitl [HO]; · iexact HO
    isplitl [Ht]; · iexact Ht
    isplitl [Hp]; · iapply (payload_bar m p d); iexact Hp
    iapply (reached_at m K (p, 16)); iexact HR
  iintro HO
  iapply Hk
  iexists W; iexact HO

/-- A transfer to a neighbour. -/
theorem wp_send_ring {Q : PUnit → sProp 𝕄} (K : Dev nD × Fin 17 → ℕ) (c : Dev nD) (k : Pg F) {s : Shape} (p : Dev nD) (sS sR : DmaSem sig) (hS : sS.val < 16) (hR : sR.val < 16) (n : ℕ)
    {src dst : Memref sig .tc .hbm s .f32} (hN : dst.view.dmaCredit = amt (.dma sS)) (hNR : amt (.dma sR) = amt (.dma sS))
    (hO : owed c (n + 1) = owed c n + tallyAt (dcell p sR) () (amt (.dma sR)))
    {qs : PosShare TreeShare} {X : s.Idx → Elt F .f32}
    (hpS : pay (F := F) m c sS.val = iprop(emp))
    (hpR : (owns (p : Thread nD τ) dst fullShare X : sProp 𝕄) = pay m p sR.val) :
    iprop(records m K ∗ owns (c : Thread nD τ) src qs X ∗ free (p : Thread nD τ) dst ∗ debt c (n + 1)
        ∗ dutyTok ER (dcell c sS) 0 false ∗ dutyTok ER (dcell p sR) 0 false)
      ⊢ iprop(((cred (tallyAt (dcell c sS) () (amt (.dma sS))) ∗ debt c n)
            -∗ wp frame (wpE (defs₀ (F := F)) 𝒱₀ (c : Thread nD τ) none) Set.univ k Q)
          -∗ wp frame (wpE (defs₀ (F := F)) 𝒱₀ (c : Thread nD τ) none) Set.univ (send src dst p sS sR k) Q) := by
  unfold debt
  iintro ⟨#HR, Hs, Hd, ⟨%W, HO⟩, HtS, HtR⟩ Hk
  iapply (wp_transfer 𝒱₀ (c : Thread nD τ) none ER (ringRd m) (c' := (p : Thread nD τ)) (sS := sS) (sem := sR) (d₁ := false) (d₂ := false)
      (κ₁ := K (c, cK sS hS)) (κ₂ := K (p, cK sR hR)) (src := src) (dst := dst) (q := qs) (X := X)
      (by rw [duties_dma m c sS hS]; exact Finset.mem_singleton_self _) (by rw [duties_dma m p sR hR]; exact Finset.mem_singleton_self _)
      () (amt (.dma sS)) hN rfl hNR (owed c n) (hO.trans (by rw [hNR])) (W := W)
      (by show _ ⊢ pay m c sS.val; rw [hpS]; iintro -; iempintro)
      (by show _ ⊢ pay m p sR.val; rw [hpR])) $$ [Hs Hd HO HtS HtR]
  · isplitr; · iapply (inv_dma m K c sS hS); iexact HR
    isplitr; · iapply (inv_dma m K p sR hR); iexact HR
    isplitl [Hs]; · iexact Hs
    isplitl [Hd]; · iexact Hd
    isplitl [HO]; · iexact HO
    isplitl [HtS]; · iexact HtS
    isplitr; · iapply (reached_dma m K c sS hS); iexact HR
    isplitl [HtR]; · iexact HtR
    iapply (reached_dma m K p sR hR); iexact HR
  iintro ⟨Hc, HO⟩
  iapply Hk
  isplitl [Hc]; · iexact Hc
  iexists W; iexact HO

/-- A wait for a copy inside the device, whatever is still owed. -/
theorem wp_wait_local {Q : PUnit → sProp 𝕄} (c : Dev nD) (k : Pg F) {sp sp' : Space} {s s' : Shape} (q : DmaSem sig) (n N : ℕ) (hlv : Below (.dma q) n)
    {src : Memref sig .tc sp s .f32} {dst : Memref sig .tc sp' s' .f32} (hN : dst.view.dmaCredit = N) {D : sProp 𝕄} :
    iprop(levAts L lv ∗ Flight EC (c : Thread nD τ) (.dma q) () N D ∗ debt c n)
      ⊢ iprop(((D ∗ semVal (dcell c q) 0 ∗ debt c n)
            -∗ wp frame (wpE (defs₀ (F := F)) 𝒱₀ (c : Thread nD τ) none) Set.univ k Q)
          -∗ wp frame (wpE (defs₀ (F := F)) 𝒱₀ (c : Thread nD τ) none) Set.univ (await q src dst k) Q) := by
  unfold debt
  iintro ⟨#Hlev, HF, ⟨%W, HO⟩⟩ Hk
  iapply (wp_arrive 𝒱₀ (c : Thread nD τ) none EC () hN (P := levAts L lv) (O := owed c n) (W := W) (D := D)
    (mayWait c (.dma q) n hlv)) $$ [HF HO]
  · isplitl [HF]; · iexact HF
    isplitl [HO]; · iexact HO
    iexact Hlev
  iintro ⟨HD, Hz, HO⟩
  iapply Hk
  isplitl [HD]; · iexact HD
  isplitl [Hz]; · iexact Hz
  iexists _; iexact HO

end Cert.KernelIdealRing
-- ==== Proof.KernelIdealWork.lean ====
/-
What a device does on its own between two transfers: 512 or 256 rows are fetched into its memory, a tile whose earlier
product has been waited for takes their product with its block of `w`, and the tile goes out to its rows of the result.
-/
module

public import proofs.«01_k».proof.Proof.KernelIdealProto

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The parts of the core's own memory -/

abbrev rowsHR : Rect S512x4096 := Rect.unit (s := S512x4096) ![0, 0] S512x4096.size inb_S512x4096_S512x4096_0_0
abbrev rowsQR : Rect S512x4096 := Rect.unit (s := S512x4096) ![0, 0] S256x4096.size inb_S512x4096_S256x4096_0_0

theorem wR_set : wR.set = Finset.univ := Rect.set_eq_univ_of_whole wR fun a => by fin_cases a <;> exact ⟨rfl, rfl, rfl⟩
theorem rowsHR_set : rowsHR.set = Finset.univ := Rect.set_eq_univ_of_whole rowsHR fun a => by fin_cases a <;> exact ⟨rfl, rfl, rfl⟩
theorem rowsQR_sub : rowsQR.set ⊆ rowsHR.set := by rw [rowsHR_set]; exact Finset.subset_univ _

theorem mem_tileR (b : Fin 2) (i : S2x512x2048.Idx) : i ∈ (tileR b).set ↔ (i 0).val = b.val := by
  have h1 : (i 1).val < 512 := (i 1).isLt
  have h2 : (i 2).val < 2048 := (i 2).isLt
  rw [Rect.mem_set_unit, Fin.forall_fin_succ, Fin.forall_fin_succ, Fin.forall_fin_succ]
  show ((b.val ≤ (i 0).val ∧ (i 0).val < b.val + 1) ∧ (0 ≤ (i 1).val ∧ (i 1).val < 0 + 512) ∧ (0 ≤ (i 2).val ∧ (i 2).val < 0 + 2048) ∧ _) ↔ _
  constructor
  · rintro ⟨h, -⟩; omega
  · intro h; exact ⟨by omega, by omega, by omega, fun k => k.elim0⟩
theorem mem_tileQR (b : Fin 2) (i : S2x512x2048.Idx) (h : i ∈ (tileQR b).set) : (i 0).val = b.val := by
  rw [Rect.mem_set_unit] at h
  have h0 : b.val ≤ (i 0).val ∧ (i 0).val < b.val + 1 := h 0
  omega
theorem tileQR_sub (b : Fin 2) : (tileQR b).set ⊆ (tileR b).set := fun i hi => (mem_tileR b i).2 (mem_tileQR b i hi)
theorem tile_disjoint : Disjoint (tileR 0).set (tileR 1).set := Finset.disjoint_left.2 fun i h h' => by
  rw [mem_tileR] at h h'; rw [h] at h'; exact absurd h' (by decide)
theorem tile_cover : (tileR 0).set ∪ (tileR 1).set = Finset.univ := by
  ext i
  have h0 : (i 0).val < 2 := (i 0).isLt
  simp only [Finset.mem_union, mem_tileR, Finset.mem_univ, iff_true]
  show (i 0).val = 0 ∨ (i 0).val = 1
  omega

/-- Both tiles, and the buffer they make up. -/
theorem tiles_split (c : Dev nD) : (free (c : Thread nD τ) tV : sProp 𝕄) ⊢ iprop(free (c : Thread nD τ) (tile 0) ∗ free (c : Thread nD τ) (tile 1)) := by
  iintro H
  ihave H := (free_take (c : Thread nD τ) tV (tileR 0) (fun _ => rfl)) $$ H
  icases H with ⟨H0, H1⟩
  isplitl [H0]; · iexact H0
  ihave H1 := (Entails.of_eq (rest_eq (c : Thread nD τ) tV (tileR 0) (fun _ => rfl) (tileR 1) (fun _ => rfl) tile_disjoint tile_cover)) $$ H1
  iexact H1
theorem tiles_join (c : Dev nD) : iprop(free (c : Thread nD τ) (tile 0) ∗ free (c : Thread nD τ) (tile 1)) ⊢ (free (c : Thread nD τ) tV : sProp 𝕄) := by
  iintro ⟨H0, H1⟩
  ihave H1 := (Entails.of_eq (rest_eq (c : Thread nD τ) tV (tileR 0) (fun _ => rfl) (tileR 1) (fun _ => rfl) tile_disjoint tile_cover).symm) $$ H1
  iapply (free_put (c : Thread nD τ) tV (tileR 0) (fun _ => rfl))
  isplitl [H0]; · iexact H0
  iexact H1

/-! ## Products -/

theorem S512x4096_pos : 0 < S512x4096.numel := by decide
theorem S256x4096_pos : 0 < S256x4096.numel := by decide
theorem S512x2048_pos : 0 < S512x2048.numel := by decide
theorem S256x2048_pos : 0 < S256x2048.numel := by decide

variable (m : (ℓ : Loc nD τ sig) → Buf (Elt F) ℓ)

/-- The device's `w` in its own memory, as launched. -/
abbrev wHeld (c : Dev nD) : sProp 𝕄 := owns (c : Thread nD τ) (wV.slice wR (fun _ => rfl)) fullShare (wL m c)

theorem wp_mulH {Q : PUnit → sProp 𝕄} (c : Dev nD) (b : Fin 2) (sm : DmaSem sig) (dst : Memref sig .tc .hbm S512x2048 .f32) (k : Pg F)
    (X : S512x4096.Idx → Elt F .f32) :
    iprop(owns (c : Thread nD τ) rowsH fullShare X ∗ wHeld m c ∗ free (c : Thread nD τ) (tile b) ∗ free (c : Thread nD τ) dst ∗ semVal (dcell c sm) 0)
      ⊢ iprop(((owns (c : Thread nD τ) rowsH fullShare X ∗ wHeld m c
              ∗ Flight EC (c : Thread nD τ) (.dma sm) () dst.view.dmaCredit
                  iprop(owns (c : Thread nD τ) dst fullShare (prodH X (wL m c)) ∗ free (c : Thread nD τ) (tile b)))
            -∗ wp frame (wpE (defs₀ (F := F)) 𝒱₀ (c : Thread nD τ) none) Set.univ k Q)
          -∗ wp frame (wpE (defs₀ (F := F)) 𝒱₀ (c : Thread nD τ) none) Set.univ (mulH b sm dst k) Q) :=
  wp_product 𝒱₀ (c : Thread nD τ) none EC (mx := xV) (mw := wV) (mo := tV) (rx := rowsHR) (rw := wR) (ro := tileR b) (hro := fun _ => rfl)
    (pay := k0_pay1) (hsq := squeezes_S1x512x2048_S512x2048) (dst := dst) (sm := sm) (k := fun _ => k) (qx := fullShare) (qw := fullShare)
    (X := X) (Y := wL m c) (fun _ => rfl) (fun _ => rfl) () S512x2048_pos

theorem wp_mulQ {Q : PUnit → sProp 𝕄} (c : Dev nD) (b : Fin 2) (sm : DmaSem sig) (dst : Memref sig .tc .hbm S256x2048 .f32) (k : Pg F)
    (X : S256x4096.Idx → Elt F .f32) :
    iprop(owns (c : Thread nD τ) rowsQ fullShare X ∗ wHeld m c ∗ free (c : Thread nD τ) (tileQ b) ∗ free (c : Thread nD τ) dst ∗ semVal (dcell c sm) 0)
      ⊢ iprop(((owns (c : Thread nD τ) rowsQ fullShare X ∗ wHeld m c
              ∗ Flight EC (c : Thread nD τ) (.dma sm) () dst.view.dmaCredit
                  iprop(owns (c : Thread nD τ) dst fullShare (prodQ X (wL m c)) ∗ free (c : Thread nD τ) (tileQ b)))
            -∗ wp frame (wpE (defs₀ (F := F)) 𝒱₀ (c : Thread nD τ) none) Set.univ k Q)
          -∗ wp frame (wpE (defs₀ (F := F)) 𝒱₀ (c : Thread nD τ) none) Set.univ (mulQ b sm dst k) Q) :=
  wp_product 𝒱₀ (c : Thread nD τ) none EC (mx := xV) (mw := wV) (mo := tV) (rx := rowsQR) (rw := wR) (ro := tileQR b) (hro := fun _ => rfl)
    (pay := k0_pay7) (hsq := squeezes_S1x256x2048_S256x2048) (dst := dst) (sm := sm) (k := fun _ => k) (qx := fullShare) (qw := fullShare)
    (X := X) (Y := wL m c) (fun _ => rfl) (fun _ => rfl) () S256x2048_pos

/-- What a device works with: the rows' buffer, `w`, and the counter of the rows' copies at zero. -/
def desk (c : Dev nD) : sProp 𝕄 := iprop(free (c : Thread nD τ) rowsH ∗ wHeld m c ∗ semVal (dcell c (ds 17)) 0)

/-- A copy out of a tile that hands back `D` and part `T` of tile `b`, with what makes the tile whole again. -/
def flying (c : Dev nD) (sm : DmaSem sig) (b : Fin 2) (N : ℕ) (D : sProp 𝕄) : sProp 𝕄 :=
  iprop(∃ T : sProp 𝕄, Flight EC (c : Thread nD τ) (.dma sm) () N iprop(D ∗ T) ∗ (T -∗ free (c : Thread nD τ) (tile b)))

/-- The wait for such a copy. -/
theorem wp_landed {Q : PUnit → sProp 𝕄} (c : Dev nD) (k : Pg F) {sp sp' : Space} {s s' : Shape} (sm : DmaSem sig) (b : Fin 2) (n : ℕ) (hlv : Below (.dma sm) n)
    {src : Memref sig .tc sp s .f32} {dst : Memref sig .tc sp' s' .f32} {D : sProp 𝕄} :
    iprop(levAts L lv ∗ flying c sm b dst.view.dmaCredit D ∗ debt c n)
      ⊢ iprop(((D ∗ free (c : Thread nD τ) (tile b) ∗ semVal (dcell c sm) 0 ∗ debt c n)
            -∗ wp frame (wpE (defs₀ (F := F)) 𝒱₀ (c : Thread nD τ) none) Set.univ k Q)
          -∗ wp frame (wpE (defs₀ (F := F)) 𝒱₀ (c : Thread nD τ) none) Set.univ (await sm src dst k) Q) := by
  unfold flying
  iintro ⟨#Hlev, ⟨%T, HF, HT⟩, HO⟩ Hk
  iapply (wp_wait_local c k sm n dst.view.dmaCredit hlv rfl (D := iprop(D ∗ T))) $$ [HF HO]
  · isplitr; · iexact Hlev
    isplitl [HF]; · iexact HF
    iexact HO
  iintro ⟨⟨HD, H⟩, Hz, HO⟩
  iapply Hk
  isplitl [HD]; · iexact HD
  isplitl [H HT]; · iapply HT; iexact H
  isplitl [Hz]; · iexact Hz
  iexact HO

theorem flying_whole (c : Dev nD) (sm : DmaSem sig) (b : Fin 2) (N : ℕ) (D : sProp 𝕄) :
    (Flight EC (c : Thread nD τ) (.dma sm) () N iprop(D ∗ free (c : Thread nD τ) (tile b)) : sProp 𝕄) ⊢ flying c sm b N D := by
  unfold flying
  iintro H
  iexists (free (c : Thread nD τ) (tile b))
  isplitl [H]; · iexact H
  iintro H; iexact H

section Rounds

variable (c : Dev nD) (b : Fin 2) (sm : DmaSem sig) (n : ℕ)

/-- The first product of a tile: 512 rows are fetched, multiplied, and sent to the result. -/
theorem wp_first {Q : PUnit → sProp 𝕄} (k : Pg F) (hlv : Below (.dma (ds 17)) n) (src : Memref sig .tc .hbm S512x4096 .f32) (q : PosShare TreeShare)
    (X : S512x4096.Idx → Elt F .f32) (dst : Memref sig .tc .hbm S512x2048 .f32) :
    iprop(levAts L lv ∗ debt c n ∗ owns (c : Thread nD τ) src q X ∗ desk m c ∗ free (c : Thread nD τ) (tile b) ∗ semVal (dcell c sm) 0
        ∗ free (c : Thread nD τ) dst)
      ⊢ iprop(((debt c n ∗ desk m c
              ∗ flying c sm b dst.view.dmaCredit (owns (c : Thread nD τ) dst fullShare (prodH X (wL m c))))
            -∗ wp frame (wpE (defs₀ (F := F)) 𝒱₀ (c : Thread nD τ) none) Set.univ k Q)
          -∗ wp frame (wpE (defs₀ (F := F)) 𝒱₀ (c : Thread nD τ) none) Set.univ
              (copy src rowsH (ds 17) ⟨Or.inl rfl, trivial⟩ <| await (ds 17) src rowsH <| mulH b sm dst k) Q) := by
  unfold desk
  iintro ⟨#Hlev, HO, Hs, ⟨Hr, Hw, Hv⟩, Ht, Hz, Hd⟩ Hk
  iapply (wp_copy 𝒱₀ (c : Thread nD τ) none EC () S512x4096_pos (src := src) (dst := rowsH) (q := q) (X := X)) $$ [Hs Hr Hv]
  · isplitl [Hs]; · iexact Hs
    isplitl [Hr]; · iexact Hr
    iexact Hv
  iintro HF
  iapply (wp_wait_local c _ _ n _ hlv rfl) $$ [HF HO]
  · isplitr; · iexact Hlev
    isplitl [HF]; · iexact HF
    iexact HO
  iintro ⟨⟨Hr, Hs⟩, Hv, HO⟩
  iapply (wp_mulH m c b sm dst k X) $$ [Hr Hw Ht Hd Hz]
  · isplitl [Hr]; · iexact Hr
    isplitl [Hw]; · iexact Hw
    isplitl [Ht]; · iexact Ht
    isplitl [Hd]; · iexact Hd
    iexact Hz
  iintro ⟨Hr, Hw, HF⟩
  iapply Hk
  isplitl [HO]; · iexact HO
  isplitl [Hr Hw Hv]
  · isplitl [Hr]; · iapply (free_of_owns (c : Thread nD τ) rowsH X); iexact Hr
    isplitl [Hw]; · iexact Hw
    iexact Hv
  iapply (flying_whole c sm b _ _); iexact HF

/-- A later product of a tile: the same, where the tile's earlier copy is waited for first. -/
theorem wp_nextH {Q : PUnit → sProp 𝕄} (k : Pg F) (hlv : Below (.dma (ds 17)) n) (hlv' : Below (.dma sm) n) (src : Memref sig .tc .hbm S512x4096 .f32) (q : PosShare TreeShare)
    (X : S512x4096.Idx → Elt F .f32) (dst : Memref sig .tc .hbm S512x2048 .f32) {s s' : Shape} {sp : Space} (t : Memref sig .tc sp s .f32)
    (p : Memref sig .tc .hbm s' .f32) (D : sProp 𝕄) :
    iprop(levAts L lv ∗ debt c n ∗ owns (c : Thread nD τ) src q X ∗ desk m c ∗ flying c sm b p.view.dmaCredit D ∗ free (c : Thread nD τ) dst)
      ⊢ iprop(((debt c n ∗ desk m c ∗ D
              ∗ flying c sm b dst.view.dmaCredit (owns (c : Thread nD τ) dst fullShare (prodH X (wL m c))))
            -∗ wp frame (wpE (defs₀ (F := F)) 𝒱₀ (c : Thread nD τ) none) Set.univ k Q)
          -∗ wp frame (wpE (defs₀ (F := F)) 𝒱₀ (c : Thread nD τ) none) Set.univ
              (copy src rowsH (ds 17) ⟨Or.inl rfl, trivial⟩ <| await sm t p <| await (ds 17) src rowsH <| mulH b sm dst k) Q) := by
  unfold desk
  iintro ⟨#Hlev, HO, Hs, ⟨Hr, Hw, Hv⟩, HT, Hd⟩ Hk
  iapply (wp_copy 𝒱₀ (c : Thread nD τ) none EC () S512x4096_pos (src := src) (dst := rowsH) (q := q) (X := X)) $$ [Hs Hr Hv]
  · isplitl [Hs]; · iexact Hs
    isplitl [Hr]; · iexact Hr
    iexact Hv
  iintro HF
  iapply (wp_landed c _ sm b n hlv' (src := t) (dst := p) (D := D)) $$ [HT HO]
  · isplitr; · iexact Hlev
    isplitl [HT]; · iexact HT
    iexact HO
  iintro ⟨HD, Ht, Hz, HO⟩
  iapply (wp_wait_local c _ _ n _ hlv rfl) $$ [HF HO]
  · isplitr; · iexact Hlev
    isplitl [HF]; · iexact HF
    iexact HO
  iintro ⟨⟨Hr, Hs⟩, Hv, HO⟩
  iapply (wp_mulH m c b sm dst k X) $$ [Hr Hw Ht Hd Hz]
  · isplitl [Hr]; · iexact Hr
    isplitl [Hw]; · iexact Hw
    isplitl [Ht]; · iexact Ht
    isplitl [Hd]; · iexact Hd
    iexact Hz
  iintro ⟨Hr, Hw, HF⟩
  iapply Hk
  isplitl [HO]; · iexact HO
  isplitl [Hr Hw Hv]
  · isplitl [Hr]; · iapply (free_of_owns (c : Thread nD τ) rowsH X); iexact Hr
    isplitl [Hw]; · iexact Hw
    iexact Hv
  isplitl [HD]; · iexact HD
  iapply (flying_whole c sm b _ _); iexact HF

/-- The same for 256 rows, in the first rows of both buffers. -/
theorem wp_nextQ {Q : PUnit → sProp 𝕄} (k : Pg F) (hlv : Below (.dma (ds 17)) n) (hlv' : Below (.dma sm) n) (src : Memref sig .tc .hbm S256x4096 .f32) (q : PosShare TreeShare)
    (X : S256x4096.Idx → Elt F .f32) (dst : Memref sig .tc .hbm S256x2048 .f32) {s s' : Shape} {sp : Space} (t : Memref sig .tc sp s .f32)
    (p : Memref sig .tc .hbm s' .f32) (D : sProp 𝕄) :
    iprop(levAts L lv ∗ debt c n ∗ owns (c : Thread nD τ) src q X ∗ desk m c ∗ flying c sm b p.view.dmaCredit D ∗ free (c : Thread nD τ) dst)
      ⊢ iprop(((debt c n ∗ desk m c ∗ D
              ∗ flying c sm b dst.view.dmaCredit (owns (c : Thread nD τ) dst fullShare (prodQ X (wL m c))))
            -∗ wp frame (wpE (defs₀ (F := F)) 𝒱₀ (c : Thread nD τ) none) Set.univ k Q)
          -∗ wp frame (wpE (defs₀ (F := F)) 𝒱₀ (c : Thread nD τ) none) Set.univ
              (copy src rowsQ (ds 17) ⟨Or.inl rfl, trivial⟩ <| await sm t p <| await (ds 17) src rowsQ <| mulQ b sm dst k) Q) := by
  unfold desk
  iintro ⟨#Hlev, HO, Hs, ⟨Hr, Hw, Hv⟩, HT, Hd⟩ Hk
  ihave Hr := (free_lend (c : Thread nD τ) xV rowsHR rowsQR (fun _ => rfl) (fun _ => rfl) rowsQR_sub) $$ Hr
  icases Hr with ⟨Hr, Hrb⟩
  iapply (wp_copy 𝒱₀ (c : Thread nD τ) none EC () S256x4096_pos (src := src) (dst := rowsQ) (q := q) (X := X)) $$ [Hs Hr Hv]
  · isplitl [Hs]; · iexact Hs
    isplitl [Hr]; · iexact Hr
    iexact Hv
  iintro HF
  iapply (wp_landed c _ sm b n hlv' (src := t) (dst := p) (D := D)) $$ [HT HO]
  · isplitr; · iexact Hlev
    isplitl [HT]; · iexact HT
    iexact HO
  iintro ⟨HD, Ht, Hz, HO⟩
  ihave Ht := (free_lend (c : Thread nD τ) tV (tileR b) (tileQR b) (fun _ => rfl) (fun _ => rfl) (tileQR_sub b)) $$ Ht
  icases Ht with ⟨Ht, Htb⟩
  iapply (wp_wait_local c _ _ n _ hlv rfl) $$ [HF HO]
  · isplitr; · iexact Hlev
    isplitl [HF]; · iexact HF
    iexact HO
  iintro ⟨⟨Hr, Hs⟩, Hv, HO⟩
  iapply (wp_mulQ m c b sm dst k X) $$ [Hr Hw Ht Hd Hz]
  · isplitl [Hr]; · iexact Hr
    isplitl [Hw]; · iexact Hw
    isplitl [Ht]; · iexact Ht
    isplitl [Hd]; · iexact Hd
    iexact Hz
  iintro ⟨Hr, Hw, HF⟩
  iapply Hk
  isplitl [HO]; · iexact HO
  isplitl [Hr Hrb Hw Hv]
  · isplitl [Hr Hrb]
    · iapply Hrb
      iapply (free_of_owns (c : Thread nD τ) rowsQ X); iexact Hr
    isplitl [Hw]; · iexact Hw
    iexact Hv
  isplitl [HD]; · iexact HD
  unfold flying
  iexists (free (c : Thread nD τ) (tileQ b))
  isplitl [HF]; · iexact HF
  iexact Htb

end Rounds

end Cert.KernelIdealRing
-- ==== Proof.KernelIdealStages.lean ====
/-
The stages of the kernel's body on one device, each from what it needs to what it leaves: the start with the device's own
rows, the neighbours' rows, the opposite device's rows, the quarters that come in last, and the waits at the end.
-/
module

public import proofs.«01_k».proof.Proof.KernelIdealWork

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Names for what a device holds -/

/-- The right to pay a transfer semaphore's duty, -/
abbrev tok (c : Dev nD) (q : DmaSem sig) : sProp 𝕄 := dutyTok ER (dcell c q) 0 false
/-- the credit for its units, -/
abbrev due (c : Dev nD) (q : DmaSem sig) : sProp 𝕄 := cred (tallyAt (dcell c q) () (amt (.dma q)))
/-- the place in its round, -/
abbrev spot (c : Dev nD) (q : DmaSem sig) : sProp 𝕄 := atPos ER (dcell c q) 0 ∅ 0
/-- and its counter at zero. -/
abbrev zero (c : Dev nD) (q : DmaSem sig) : sProp 𝕄 := semVal (dcell c q) 0

/-! ## Sizes -/

theorem half_credit (o : Dev nD) (a : ℕ) (ha : a + 512 ≤ 1024) : (half o a ha).view.dmaCredit = NH := rfl
theorem qtr_credit (o : Dev nD) (a : ℕ) (ha : a + 256 ≤ 1024) : (qtr o a ha).view.dmaCredit = NQ := rfl
theorem xHalf_credit (a : ℕ) (ha : a + 512 ≤ 1024) : (xHalf a ha).view.dmaCredit = NH := rfl
theorem amt_half (q : DmaSem sig) (h : q.val % 4 < 2) : amt (.dma q) = NH := if_pos h
theorem amt_qtr (q : DmaSem sig) (h : ¬ q.val % 4 < 2) : amt (.dma q) = NQ := if_neg h

/-! ## What the neighbours hand over -/

theorem rightGive_nxt (c : Dev nD) : (rightGive (nxt c) : sProp 𝕄)
    = iprop(free (nxt c : Thread nD τ) (half c 0) ∗ free (nxt c : Thread nD τ) (half (prv c) 0)
      ∗ free (nxt c : Thread nD τ) (qtr (opp c) 0) ∗ free (nxt c : Thread nD τ) (qtr (opp c) 256)) := by
  unfold rightGive; rw [prv_nxt, opp_nxt, nxt_nxt]
theorem leftGive_prv (c : Dev nD) : (leftGive (prv c) : sProp 𝕄)
    = iprop(free (prv c : Thread nD τ) (half c 512) ∗ free (prv c : Thread nD τ) (half (nxt c) 512)
      ∗ free (prv c : Thread nD τ) (qtr (opp c) 512) ∗ free (prv c : Thread nD τ) (qtr (opp c) 768)) := by
  unfold leftGive; rw [nxt_prv, opp_prv, prv_prv]
theorem payBar_prv (c : Dev nD) : (payOf m (prv c) (.reg barS) false : sProp 𝕄) = rightGive c := by
  show rightGive (nxt (prv c)) = _; rw [nxt_prv]
theorem payBar_nxt (c : Dev nD) : (payOf m (nxt c) (.reg barS) true : sProp 𝕄) = leftGive c := by
  show leftGive (prv (nxt c)) = _; rw [prv_nxt]

theorem pay4_nxt (c : Dev nD) : (owns (nxt c : Thread nD τ) (half c 0) fullShare (xH m c 0) : sProp 𝕄) = pay m (nxt c) 4 := by
  show _ = owns (nxt c : Thread nD τ) (half (prv (nxt c)) 0) fullShare (xH m (prv (nxt c)) 0); rw [prv_nxt]
theorem pay5_nxt (c : Dev nD) : (owns (nxt c : Thread nD τ) (half (prv c) 0) fullShare (xH m (prv c) 0) : sProp 𝕄) = pay m (nxt c) 5 := by
  show _ = owns (nxt c : Thread nD τ) (half (opp (nxt c)) 0) fullShare (xH m (opp (nxt c)) 0); rw [opp_nxt]
theorem pay6_nxt (c : Dev nD) : (owns (nxt c : Thread nD τ) (qtr (opp c) 0) fullShare (xQ m (opp c) 0) : sProp 𝕄) = pay m (nxt c) 6 := by
  show _ = owns (nxt c : Thread nD τ) (qtr (nxt (nxt c)) 0) fullShare (xQ m (nxt (nxt c)) 0); rw [nxt_nxt]
theorem pay7_nxt (c : Dev nD) : (owns (nxt c : Thread nD τ) (qtr (opp c) 256) fullShare (xQ m (opp c) 256) : sProp 𝕄) = pay m (nxt c) 7 := by
  show _ = owns (nxt c : Thread nD τ) (qtr (nxt (nxt c)) 256) fullShare (xQ m (nxt (nxt c)) 256); rw [nxt_nxt]
theorem pay12_prv (c : Dev nD) : (owns (prv c : Thread nD τ) (half c 512) fullShare (xH m c 512) : sProp 𝕄) = pay m (prv c) 12 := by
  show _ = owns (prv c : Thread nD τ) (half (nxt (prv c)) 512) fullShare (xH m (nxt (prv c)) 512); rw [nxt_prv]
theorem pay13_prv (c : Dev nD) : (owns (prv c : Thread nD τ) (half (nxt c) 512) fullShare (xH m (nxt c) 512) : sProp 𝕄) = pay m (prv c) 13 := by
  show _ = owns (prv c : Thread nD τ) (half (opp (prv c)) 512) fullShare (xH m (opp (prv c)) 512); rw [opp_prv]
theorem pay14_prv (c : Dev nD) : (owns (prv c : Thread nD τ) (qtr (opp c) 512) fullShare (xQ m (opp c) 512) : sProp 𝕄) = pay m (prv c) 14 := by
  show _ = owns (prv c : Thread nD τ) (qtr (prv (prv c)) 512) fullShare (xQ m (prv (prv c)) 512); rw [prv_prv]
theorem pay15_prv (c : Dev nD) : (owns (prv c : Thread nD τ) (qtr (opp c) 768) fullShare (xQ m (opp c) 768) : sProp 𝕄) = pay m (prv c) 15 := by
  show _ = owns (prv c : Thread nD τ) (qtr (prv (prv c)) 768) fullShare (xQ m (prv (prv c)) 768); rw [prv_prv]

/-- A half of a device's rows is its two quarters. -/
theorem half_cut (c o : Dev nD) (a b : ℕ) (ha : a + 512 ≤ 1024) (ha₁ : a + 256 ≤ 1024) (hb : b + 256 ≤ 1024) (h : b = a + 256)
    (q : PosShare TreeShare) :
    (owns (c : Thread nD τ) (half o a ha) q (xH m o a ha) : sProp 𝕄)
      ⊢ iprop(owns (c : Thread nD τ) (qtr o a ha₁) q (xQ m o a ha₁) ∗ owns (c : Thread nD τ) (qtr o b hb) q (xQ m o b hb)) := by
  subst h
  refine owns_cut (c : Thread nD τ) gM ?_ ?_ q (fun f h => qtr_of_half m o o a 0 ha (by decide) ha₁ f h)
    (fun f h => qtr_of_half m o o a 256 ha (by decide) hb f h)
  · refine Finset.disjoint_left.2 fun i hi hi' => ?_
    rw [Rect.mem_set_unit] at hi hi'
    have e1 : a ≤ (i 1).val ∧ (i 1).val < a + 256 := hi 1
    have e2 : a + 256 ≤ (i 1).val ∧ (i 1).val < a + 256 + 256 := hi' 1
    omega
  · ext i
    rw [Finset.mem_union, Rect.mem_set_unit, Rect.mem_set_unit, Rect.mem_set_unit]
    constructor
    · intro h
      have e : a ≤ (i 1).val ∧ (i 1).val < a + 512 := h 1
      by_cases hb : (i 1).val < a + 256
      · exact Or.inl fun k => by
          fin_cases k
          · exact h 0
          · exact ⟨e.1, hb⟩
          · exact h 2
      · exact Or.inr fun k => by
          fin_cases k
          · exact h 0
          · exact ⟨Nat.le_of_not_lt hb, by show (i 1).val < a + 256 + 256; omega⟩
          · exact h 2
    · rintro (h | h)
      · have e : a ≤ (i 1).val ∧ (i 1).val < a + 256 := h 1
        intro k
        fin_cases k
        · exact h 0
        · exact ⟨e.1, by show (i 1).val < a + 512; omega⟩
        · exact h 2
      · have e : a + 256 ≤ (i 1).val ∧ (i 1).val < a + 256 + 256 := h 1
        intro k
        fin_cases k
        · exact h 0
        · exact ⟨by show a ≤ (i 1).val; omega, by show (i 1).val < a + 512; omega⟩
        · exact h 2

/-! ## The debts one by one -/

theorem owed10 (c : Dev nD) : owed c 10 = owed c 9 + tallyAt (bcell (prv c)) () 1 := rfl
theorem owed9 (c : Dev nD) : owed c 9 = owed c 8 + tallyAt (bcell (nxt c)) () 1 := rfl
theorem owed8 (c : Dev nD) : owed c 8 = owed c 7 + tallyAt (dcell (nxt c) (ds 4)) () (amt (.dma (ds 4))) := rfl
theorem owed7 (c : Dev nD) : owed c 7 = owed c 6 + tallyAt (dcell (prv c) (ds 12)) () (amt (.dma (ds 12))) := rfl
theorem owed6 (c : Dev nD) : owed c 6 = owed c 5 + tallyAt (dcell (nxt c) (ds 5)) () (amt (.dma (ds 5))) := rfl
theorem owed5 (c : Dev nD) : owed c 5 = owed c 4 + tallyAt (dcell (prv c) (ds 13)) () (amt (.dma (ds 13))) := rfl
theorem owed4 (c : Dev nD) : owed c 4 = owed c 3 + tallyAt (dcell (nxt c) (ds 6)) () (amt (.dma (ds 6))) := rfl
theorem owed3 (c : Dev nD) : owed c 3 = owed c 2 + tallyAt (dcell (nxt c) (ds 7)) () (amt (.dma (ds 7))) := rfl
theorem owed2 (c : Dev nD) : owed c 2 = owed c 1 + tallyAt (dcell (prv c) (ds 14)) () (amt (.dma (ds 14))) := rfl
theorem owed1 (c : Dev nD) : owed c 1 = owed c 0 + tallyAt (dcell (prv c) (ds 15)) () (amt (.dma (ds 15))) := rfl

/-- A half that goes to a neighbour. -/
theorem wp_send_half {Q : PUnit → sProp 𝕄} (K : Dev nD × Fin 17 → ℕ) (c : Dev nD) (k : Pg F) (p : Dev nD) (sS sR : DmaSem sig)
    (hS : sS.val < 16) (hR : sR.val < 16) (hS' : sS.val % 4 < 2) (hR' : sR.val % 4 < 2) (n : ℕ)
    (hO : owed c (n + 1) = owed c n + tallyAt (dcell p sR) () (amt (.dma sR))) (hpS : pay (F := F) m c sS.val = iprop(emp))
    (src : Memref sig .tc .hbm S512x4096 .f32) (o : Dev nD) (a : ℕ) (ha : a + 512 ≤ 1024) {q : PosShare TreeShare}
    (hpR : (owns (p : Thread nD τ) (half o a ha) fullShare (xH m o a ha) : sProp 𝕄) = pay m p sR.val) :
    iprop(records m K ∗ owns (c : Thread nD τ) src q (xH m o a ha) ∗ free (p : Thread nD τ) (half o a ha) ∗ debt c (n + 1) ∗ tok c sS ∗ tok p sR)
      ⊢ iprop(((due c sS ∗ debt c n) -∗ wp frame (wpE (defs₀ (F := F)) 𝒱₀ (c : Thread nD τ) none) Set.univ k Q)
          -∗ wp frame (wpE (defs₀ (F := F)) 𝒱₀ (c : Thread nD τ) none) Set.univ (send src (half o a ha) p sS sR k) Q) :=
  wp_send_ring m K c k p sS sR hS hR n ((half_credit o a ha).trans (amt_half sS hS').symm) ((amt_half sR hR').trans (amt_half sS hS').symm) hO hpS hpR

/-- A quarter that goes to a neighbour. -/
theorem wp_send_qtr {Q : PUnit → sProp 𝕄} (K : Dev nD × Fin 17 → ℕ) (c : Dev nD) (k : Pg F) (p : Dev nD) (sS sR : DmaSem sig)
    (hS : sS.val < 16) (hR : sR.val < 16) (hS' : ¬ sS.val % 4 < 2) (hR' : ¬ sR.val % 4 < 2) (n : ℕ)
    (hO : owed c (n + 1) = owed c n + tallyAt (dcell p sR) () (amt (.dma sR))) (hpS : pay (F := F) m c sS.val = iprop(emp))
    (src : Memref sig .tc .hbm S256x4096 .f32) (o : Dev nD) (a : ℕ) (ha : a + 256 ≤ 1024) {q : PosShare TreeShare}
    (hpR : (owns (p : Thread nD τ) (qtr o a ha) fullShare (xQ m o a ha) : sProp 𝕄) = pay m p sR.val) :
    iprop(records m K ∗ owns (c : Thread nD τ) src q (xQ m o a ha) ∗ free (p : Thread nD τ) (qtr o a ha) ∗ debt c (n + 1) ∗ tok c sS ∗ tok p sR)
      ⊢ iprop(((due c sS ∗ debt c n) -∗ wp frame (wpE (defs₀ (F := F)) 𝒱₀ (c : Thread nD τ) none) Set.univ k Q)
          -∗ wp frame (wpE (defs₀ (F := F)) 𝒱₀ (c : Thread nD τ) none) Set.univ (send src (qtr o a ha) p sS sR k) Q) :=
  wp_send_ring m K c k p sS sR hS hR n ((qtr_credit o a ha).trans (amt_qtr sS hS').symm) ((amt_qtr sR hR').trans (amt_qtr sS hS').symm) hO hpS hpR

/-! ## The stages -/

/-- The tile's copy of a product of 512 rows to its rows of the result, in flight. -/
abbrev flyH (c : Dev nD) (q : DmaSem sig) (b : Fin 2) (o : Dev nD) (a : ℕ) (ha : a + 512 ≤ 1024 := by decide) : sProp 𝕄 :=
  flying c q b (oHalf o a ha).view.dmaCredit (owns (c : Thread nD τ) (oHalf o a ha) fullShare (prodH (xH m o a ha) (wL m c)))
/-- The same for 256 rows. -/
abbrev flyQ (c : Dev nD) (q : DmaSem sig) (b : Fin 2) (o : Dev nD) (a : ℕ) (ha : a + 256 ≤ 1024 := by decide) : sProp 𝕄 :=
  flying c q b (oQtr o a ha).view.dmaCredit (owns (c : Thread nD τ) (oQtr o a ha) fullShare (prodQ (xQ m o a ha) (wL m c)))
/-- The rows of the result at their product. -/
abbrev outH (c o : Dev nD) (a : ℕ) (ha : a + 512 ≤ 1024 := by decide) : sProp 𝕄 :=
  owns (c : Thread nD τ) (oHalf o a ha) fullShare (prodH (xH m o a ha) (wL m c))
abbrev outQ (c o : Dev nD) (a : ℕ) (ha : a + 256 ≤ 1024 := by decide) : sProp 𝕄 :=
  owns (c : Thread nD τ) (oQtr o a ha) fullShare (prodQ (xQ m o a ha) (wL m c))

theorem wp_own {Q : PUnit → sProp 𝕄} (K : Dev nD × Fin 17 → ℕ) (c : Dev nD) (k : Pg F) (qw q₁ q₂ q₃ q₄ : PosShare TreeShare) :
    iprop(records m K ∗ levAts L lv ∗ debt c 10
        ∗ owns (c : Thread nD τ) wM qw (wW m c) ∗ free (c : Thread nD τ) wV ∗ zero c (ds 16) ∗ free (c : Thread nD τ) rowsH ∗ zero c (ds 17)
        ∗ dutyTok ER (bcell (prv c)) 0 false ∗ dutyTok ER (bcell (nxt c)) 0 true ∗ rightGive c ∗ leftGive c
        ∗ cred (tallyAt (bcell c) () 2) ∗ atPos ER (bcell c) 0 ∅ 0
        ∗ owns (c : Thread nD τ) (xHalf 0) q₁ (xH m c 0) ∗ tok c (ds 0) ∗ tok (nxt c) (ds 4)
        ∗ owns (c : Thread nD τ) (xHalf 512) q₂ (xH m c 512) ∗ tok c (ds 8) ∗ tok (prv c) (ds 12)
        ∗ owns (c : Thread nD τ) (xHalf 0) q₃ (xH m c 0) ∗ free (c : Thread nD τ) (tile 0) ∗ zero c (ds 18) ∗ free (c : Thread nD τ) (oHalf c 0)
        ∗ owns (c : Thread nD τ) (xHalf 512) q₄ (xH m c 512) ∗ free (c : Thread nD τ) (tile 1) ∗ zero c (ds 19) ∗ free (c : Thread nD τ) (oHalf c 512))
      ⊢ iprop(((debt c 6 ∗ zero c (ds 16) ∗ semVal (bcell c) 0 ∗ due c (ds 0) ∗ due c (ds 8) ∗ desk m c
              ∗ flyH m c (ds 18) 0 c 0 ∗ flyH m c (ds 19) 1 c 512
              ∗ (free (nxt c : Thread nD τ) (half (prv c) 0) ∗ free (nxt c : Thread nD τ) (qtr (opp c) 0) ∗ free (nxt c : Thread nD τ) (qtr (opp c) 256))
              ∗ (free (prv c : Thread nD τ) (half (nxt c) 512) ∗ free (prv c : Thread nD τ) (qtr (opp c) 512) ∗ free (prv c : Thread nD τ) (qtr (opp c) 768)))
            -∗ wp frame (wpE (defs₀ (F := F)) 𝒱₀ (c : Thread nD τ) none) Set.univ k Q)
          -∗ wp frame (wpE (defs₀ (F := F)) 𝒱₀ (c : Thread nD τ) none) Set.univ (flowOwn c k) Q) := by
  iintro ⟨#HR, #Hlev, HO, Hw, Hwv, Hz16, Hrow, Hz17, HtP, HtN, HgR, HgL, HcB, HaB, Hx1, Ht0, Ht4, Hx2, Ht8, Ht12, Hx3, Htl0, Hz18, Ho0, Hx4, Htl1, Hz19, Ho1⟩ Hk
  -- `w` into the core's memory
  iapply (wp_copy 𝒱₀ (c : Thread nD τ) none EC () (by decide) (src := wM) (dst := wV) (q := qw) (X := wW m c)) $$ [Hw Hwv Hz16]
  · isplitl [Hw]; · iexact Hw
    isplitl [Hwv]; · iexact Hwv
    iexact Hz16
  iintro HFw
  -- the neighbours are told
  iapply (wp_signal_ring m K c _ (prv c) false 9 (owed10 c)) $$ [HO HtP HgR]
  · isplitr; · iexact HR
    isplitl [HO]; · iexact HO
    isplitl [HtP]; · iexact HtP
    iapply (Entails.of_eq (payBar_prv m c).symm); iexact HgR
  iintro HO
  iapply (wp_signal_ring m K c _ (nxt c) true 8 (owed9 c)) $$ [HO HtN HgL]
  · isplitr; · iexact HR
    isplitl [HO]; · iexact HO
    isplitl [HtN]; · iexact HtN
    iapply (Entails.of_eq (payBar_nxt m c).symm); iexact HgL
  iintro HO
  -- and heard
  iapply (wp_wait_bar m K c _ 8 (by decide)) $$ [HcB HO HaB]
  · isplitr; · iexact HR
    isplitr; · iexact Hlev
    isplitl [HcB]; · iexact HcB
    isplitl [HO]; · iexact HO
    iexact HaB
  iintro ⟨HO, HzB, HgR, HgL⟩
  ihave HgR := (Entails.of_eq (rightGive_nxt c)) $$ HgR
  icases HgR with ⟨Hd1, HgR⟩
  ihave HgL := (Entails.of_eq (leftGive_prv c)) $$ HgL
  icases HgL with ⟨Hd2, HgL⟩
  -- the device's own halves go out
  iapply (wp_send_half m K c _ (nxt c) _ _ (by decide) (by decide) (by decide) (by decide) 7 (owed8 c) rfl _ c 0 _ (pay4_nxt m c)) $$ [Hx1 Hd1 HO Ht0 Ht4]
  · isplitr; · iexact HR
    isplitl [Hx1]; · iexact Hx1
    isplitl [Hd1]; · iexact Hd1
    isplitl [HO]; · iexact HO
    isplitl [Ht0]; · iexact Ht0
    iexact Ht4
  iintro ⟨Hc0, HO⟩
  iapply (wp_send_half m K c _ (prv c) _ _ (by decide) (by decide) (by decide) (by decide) 6 (owed7 c) rfl _ c 512 _ (pay12_prv m c)) $$ [Hx2 Hd2 HO Ht8 Ht12]
  · isplitr; · iexact HR
    isplitl [Hx2]; · iexact Hx2
    isplitl [Hd2]; · iexact Hd2
    isplitl [HO]; · iexact HO
    isplitl [Ht8]; · iexact Ht8
    iexact Ht12
  iintro ⟨Hc8, HO⟩
  -- `w` is there
  iapply (wp_wait_local c _ _ 6 _ (by decide) rfl) $$ [HFw HO]
  · isplitr; · iexact Hlev
    isplitl [HFw]; · iexact HFw
    iexact HO
  iintro ⟨⟨Hwv, -⟩, Hz16, HO⟩
  ihave Hwv := (owns_full (c : Thread nD τ) wV wR (fun _ => rfl) wR_set fullShare (wW m c)) $$ Hwv
  -- the device's own products
  iapply (wp_first m c 0 _ 6 _ (by decide) _ q₃ (xH m c 0 _) _) $$ [HO Hx3 Hrow Hwv Hz17 Htl0 Hz18 Ho0]
  · isplitr; · iexact Hlev
    isplitl [HO]; · iexact HO
    isplitl [Hx3]; · iexact Hx3
    isplitl [Hrow Hwv Hz17]
    · unfold desk
      isplitl [Hrow]; · iexact Hrow
      isplitl [Hwv]; · iexact Hwv
      iexact Hz17
    isplitl [Htl0]; · iexact Htl0
    isplitl [Hz18]; · iexact Hz18
    iexact Ho0
  iintro ⟨HO, Hdesk, Hf0⟩
  iapply (wp_first m c 1 _ 6 _ (by decide) _ q₄ (xH m c 512 _) _) $$ [HO Hx4 Hdesk Htl1 Hz19 Ho1]
  · isplitr; · iexact Hlev
    isplitl [HO]; · iexact HO
    isplitl [Hx4]; · iexact Hx4
    isplitl [Hdesk]; · iexact Hdesk
    isplitl [Htl1]; · iexact Htl1
    isplitl [Hz19]; · iexact Hz19
    iexact Ho1
  iintro ⟨HO, Hdesk, Hf1⟩
  iapply Hk
  isplitl [HO]; · iexact HO
  isplitl [Hz16]; · iexact Hz16
  isplitl [HzB]; · iexact HzB
  isplitl [Hc0]; · iexact Hc0
  isplitl [Hc8]; · iexact Hc8
  isplitl [Hdesk]; · iexact Hdesk
  isplitl [Hf0]; · iexact Hf0
  isplitl [Hf1]; · iexact Hf1
  isplitl [HgR]; · iexact HgR
  iexact HgL

/-- A wait for a half that has come in, which leaves it at two shares. -/
theorem wp_come_half {Q : PUnit → sProp 𝕄} (K : Dev nD × Fin 17 → ℕ) (c : Dev nD) (k : Pg F) (q : DmaSem sig) (hq : q.val < 16) (hq' : q.val % 4 < 2) (n : ℕ)
    (hlv : Below (.dma q) n) {s' : Shape} {sp' : Space} (src : Memref sig .tc sp' s' .f32) (o : Dev nD) (a : ℕ) (ha : a + 512 ≤ 1024)
    (hp : pay m c q.val = (owns (c : Thread nD τ) (half o a ha) fullShare (xH m o a ha) : sProp 𝕄)) :
    iprop(records m K ∗ levAts L lv ∗ due c q ∗ debt c n ∗ spot c q)
      ⊢ iprop(((debt c n ∗ zero c q ∗ owns (c : Thread nD τ) (half o a ha) fullShare.left (xH m o a ha)
              ∗ owns (c : Thread nD τ) (half o a ha) fullShare.right (xH m o a ha))
            -∗ wp frame (wpE (defs₀ (F := F)) 𝒱₀ (c : Thread nD τ) none) Set.univ k Q)
          -∗ wp frame (wpE (defs₀ (F := F)) 𝒱₀ (c : Thread nD τ) none) Set.univ (await q src (half o a ha) k) Q) := by
  iintro H Hk
  iapply (wp_wait_ring m K c k q hq n hlv ((half_credit o a ha).trans (amt_half q hq').symm)) $$ H
  iintro ⟨HO, Hz, Hp⟩
  ihave Hp := (Entails.of_eq hp) $$ Hp
  iapply Hk
  isplitl [HO]; · iexact HO
  isplitl [Hz]; · iexact Hz
  iapply (owns_split (c : Thread nD τ) (half o a ha) fullShare (xH m o a ha)); iexact Hp

theorem wp_nbr {Q : PUnit → sProp 𝕄} (K : Dev nD × Fin 17 → ℕ) (c : Dev nD) (k : Pg F) :
    iprop(records m K ∗ levAts L lv ∗ debt c 6 ∗ desk m c
        ∗ due c (ds 4) ∗ spot c (ds 4) ∗ free (nxt c : Thread nD τ) (half (prv c) 0) ∗ tok c (ds 1) ∗ tok (nxt c) (ds 5)
        ∗ due c (ds 12) ∗ spot c (ds 12) ∗ free (prv c : Thread nD τ) (half (nxt c) 512) ∗ tok c (ds 9) ∗ tok (prv c) (ds 13)
        ∗ flyH m c (ds 18) 0 c 0 ∗ free (c : Thread nD τ) (oHalf (prv c) 0)
        ∗ flyH m c (ds 19) 1 c 512 ∗ free (c : Thread nD τ) (oHalf (nxt c) 512))
      ⊢ iprop(((debt c 4 ∗ desk m c ∗ zero c (ds 4) ∗ zero c (ds 12) ∗ due c (ds 1) ∗ due c (ds 9) ∗ outH m c c 0 ∗ outH m c c 512
              ∗ flyH m c (ds 18) 0 (prv c) 0 ∗ flyH m c (ds 19) 1 (nxt c) 512)
            -∗ wp frame (wpE (defs₀ (F := F)) 𝒱₀ (c : Thread nD τ) none) Set.univ k Q)
          -∗ wp frame (wpE (defs₀ (F := F)) 𝒱₀ (c : Thread nD τ) none) Set.univ (flowNbr c k) Q) := by
  iintro ⟨#HR, #Hlev, HO, Hdesk, Hc4, Ha4, Hd1, Ht1, Ht5, Hc12, Ha12, Hd2, Ht9, Ht13, Hf0, Ho0, Hf1, Ho1⟩ Hk
  iapply (wp_come_half m K c _ _ (by decide) (by decide) 6 (by decide) _ (prv c) 0 _ rfl) $$ [Hc4 HO Ha4]
  · isplitr; · iexact HR
    isplitr; · iexact Hlev
    isplitl [Hc4]; · iexact Hc4
    isplitl [HO]; · iexact HO
    iexact Ha4
  iintro ⟨HO, Hz4, Hl, Hr1⟩
  iapply (wp_send_half m K c _ (nxt c) _ _ (by decide) (by decide) (by decide) (by decide) 5 (owed6 c) rfl _ (prv c) 0 _ (pay5_nxt m c)) $$ [Hl Hd1 HO Ht1 Ht5]
  · isplitr; · iexact HR
    isplitl [Hl]; · iexact Hl
    isplitl [Hd1]; · iexact Hd1
    isplitl [HO]; · iexact HO
    isplitl [Ht1]; · iexact Ht1
    iexact Ht5
  iintro ⟨Hc1, HO⟩
  iapply (wp_come_half m K c _ _ (by decide) (by decide) 5 (by decide) _ (nxt c) 512 _ rfl) $$ [Hc12 HO Ha12]
  · isplitr; · iexact HR
    isplitr; · iexact Hlev
    isplitl [Hc12]; · iexact Hc12
    isplitl [HO]; · iexact HO
    iexact Ha12
  iintro ⟨HO, Hz12, Hl, Hr2⟩
  iapply (wp_send_half m K c _ (prv c) _ _ (by decide) (by decide) (by decide) (by decide) 4 (owed5 c) rfl _ (nxt c) 512 _ (pay13_prv m c)) $$ [Hl Hd2 HO Ht9 Ht13]
  · isplitr; · iexact HR
    isplitl [Hl]; · iexact Hl
    isplitl [Hd2]; · iexact Hd2
    isplitl [HO]; · iexact HO
    isplitl [Ht9]; · iexact Ht9
    iexact Ht13
  iintro ⟨Hc9, HO⟩
  iapply (wp_nextH m c 0 _ 4 _ (by decide) (by decide) _ fullShare.right (xH m (prv c) 0 _) _ _ _ (outH m c c 0 _)) $$ [HO Hr1 Hdesk Hf0 Ho0]
  · isplitr; · iexact Hlev
    isplitl [HO]; · iexact HO
    isplitl [Hr1]; · iexact Hr1
    isplitl [Hdesk]; · iexact Hdesk
    isplitl [Hf0]; · iexact Hf0
    iexact Ho0
  iintro ⟨HO, Hdesk, HD0, Hf0⟩
  iapply (wp_nextH m c 1 _ 4 _ (by decide) (by decide) _ fullShare.right (xH m (nxt c) 512 _) _ _ _ (outH m c c 512 _)) $$ [HO Hr2 Hdesk Hf1 Ho1]
  · isplitr; · iexact Hlev
    isplitl [HO]; · iexact HO
    isplitl [Hr2]; · iexact Hr2
    isplitl [Hdesk]; · iexact Hdesk
    isplitl [Hf1]; · iexact Hf1
    iexact Ho1
  iintro ⟨HO, Hdesk, HD1, Hf1⟩
  iapply Hk
  isplitl [HO]; · iexact HO
  isplitl [Hdesk]; · iexact Hdesk
  isplitl [Hz4]; · iexact Hz4
  isplitl [Hz12]; · iexact Hz12
  isplitl [Hc1]; · iexact Hc1
  isplitl [Hc9]; · iexact Hc9
  isplitl [HD0]; · iexact HD0
  isplitl [HD1]; · iexact HD1
  isplitl [Hf0]; · iexact Hf0
  iexact Hf1

theorem wp_opp {Q : PUnit → sProp 𝕄} (K : Dev nD × Fin 17 → ℕ) (c : Dev nD) (k : Pg F) :
    iprop(records m K ∗ levAts L lv ∗ debt c 4 ∗ desk m c
        ∗ due c (ds 5) ∗ spot c (ds 5) ∗ free (nxt c : Thread nD τ) (qtr (opp c) 0) ∗ tok c (ds 2) ∗ tok (nxt c) (ds 6)
        ∗ free (nxt c : Thread nD τ) (qtr (opp c) 256) ∗ tok c (ds 3) ∗ tok (nxt c) (ds 7)
        ∗ due c (ds 13) ∗ spot c (ds 13) ∗ free (prv c : Thread nD τ) (qtr (opp c) 512) ∗ tok c (ds 10) ∗ tok (prv c) (ds 14)
        ∗ free (prv c : Thread nD τ) (qtr (opp c) 768) ∗ tok c (ds 11) ∗ tok (prv c) (ds 15)
        ∗ flyH m c (ds 18) 0 (prv c) 0 ∗ free (c : Thread nD τ) (oHalf (opp c) 0)
        ∗ flyH m c (ds 19) 1 (nxt c) 512 ∗ free (c : Thread nD τ) (oHalf (opp c) 512))
      ⊢ iprop(((debt c 0 ∗ desk m c ∗ zero c (ds 5) ∗ zero c (ds 13) ∗ due c (ds 2) ∗ due c (ds 3) ∗ due c (ds 10) ∗ due c (ds 11)
              ∗ outH m c (prv c) 0 ∗ outH m c (nxt c) 512
              ∗ flyH m c (ds 18) 0 (opp c) 0 ∗ flyH m c (ds 19) 1 (opp c) 512)
            -∗ wp frame (wpE (defs₀ (F := F)) 𝒱₀ (c : Thread nD τ) none) Set.univ k Q)
          -∗ wp frame (wpE (defs₀ (F := F)) 𝒱₀ (c : Thread nD τ) none) Set.univ (flowOpp c k) Q) := by
  iintro ⟨#HR, #Hlev, HO, Hdesk, Hc5, Ha5, Hd1, Ht2, Ht6, Hd2, Ht3, Ht7, Hc13, Ha13, Hd3, Ht10, Ht14, Hd4, Ht11, Ht15, Hf0, Ho0, Hf1, Ho1⟩ Hk
  iapply (wp_come_half m K c _ _ (by decide) (by decide) 4 (by decide) _ (opp c) 0 _ rfl) $$ [Hc5 HO Ha5]
  · isplitr; · iexact HR
    isplitr; · iexact Hlev
    isplitl [Hc5]; · iexact Hc5
    isplitl [HO]; · iexact HO
    iexact Ha5
  iintro ⟨HO, Hz5, Hl, Hr1⟩
  ihave Hl := (half_cut m c (opp c) 0 256 _ (by decide) (by decide) rfl fullShare.left) $$ Hl
  icases Hl with ⟨Hq0, Hq1⟩
  iapply (wp_send_qtr m K c _ (nxt c) _ _ (by decide) (by decide) (by decide) (by decide) 3 (owed4 c) rfl _ (opp c) 0 _ (pay6_nxt m c)) $$ [Hq0 Hd1 HO Ht2 Ht6]
  · isplitr; · iexact HR
    isplitl [Hq0]; · iexact Hq0
    isplitl [Hd1]; · iexact Hd1
    isplitl [HO]; · iexact HO
    isplitl [Ht2]; · iexact Ht2
    iexact Ht6
  iintro ⟨Hc2, HO⟩
  iapply (wp_send_qtr m K c _ (nxt c) _ _ (by decide) (by decide) (by decide) (by decide) 2 (owed3 c) rfl _ (opp c) 256 _ (pay7_nxt m c)) $$ [Hq1 Hd2 HO Ht3 Ht7]
  · isplitr; · iexact HR
    isplitl [Hq1]; · iexact Hq1
    isplitl [Hd2]; · iexact Hd2
    isplitl [HO]; · iexact HO
    isplitl [Ht3]; · iexact Ht3
    iexact Ht7
  iintro ⟨Hc3, HO⟩
  iapply (wp_come_half m K c _ _ (by decide) (by decide) 2 (by decide) _ (opp c) 512 _ rfl) $$ [Hc13 HO Ha13]
  · isplitr; · iexact HR
    isplitr; · iexact Hlev
    isplitl [Hc13]; · iexact Hc13
    isplitl [HO]; · iexact HO
    iexact Ha13
  iintro ⟨HO, Hz13, Hl, Hr2⟩
  ihave Hl := (half_cut m c (opp c) 512 768 _ (by decide) (by decide) rfl fullShare.left) $$ Hl
  icases Hl with ⟨Hq0, Hq1⟩
  iapply (wp_send_qtr m K c _ (prv c) _ _ (by decide) (by decide) (by decide) (by decide) 1 (owed2 c) rfl _ (opp c) 512 _ (pay14_prv m c)) $$ [Hq0 Hd3 HO Ht10 Ht14]
  · isplitr; · iexact HR
    isplitl [Hq0]; · iexact Hq0
    isplitl [Hd3]; · iexact Hd3
    isplitl [HO]; · iexact HO
    isplitl [Ht10]; · iexact Ht10
    iexact Ht14
  iintro ⟨Hc10, HO⟩
  iapply (wp_send_qtr m K c _ (prv c) _ _ (by decide) (by decide) (by decide) (by decide) 0 (owed1 c) rfl _ (opp c) 768 _ (pay15_prv m c)) $$ [Hq1 Hd4 HO Ht11 Ht15]
  · isplitr; · iexact HR
    isplitl [Hq1]; · iexact Hq1
    isplitl [Hd4]; · iexact Hd4
    isplitl [HO]; · iexact HO
    isplitl [Ht11]; · iexact Ht11
    iexact Ht15
  iintro ⟨Hc11, HO⟩
  iapply (wp_nextH m c 0 _ 0 _ (by decide) (by decide) _ fullShare.right (xH m (opp c) 0 _) _ _ _ (outH m c (prv c) 0 _)) $$ [HO Hr1 Hdesk Hf0 Ho0]
  · isplitr; · iexact Hlev
    isplitl [HO]; · iexact HO
    isplitl [Hr1]; · iexact Hr1
    isplitl [Hdesk]; · iexact Hdesk
    isplitl [Hf0]; · iexact Hf0
    iexact Ho0
  iintro ⟨HO, Hdesk, HD0, Hf0⟩
  iapply (wp_nextH m c 1 _ 0 _ (by decide) (by decide) _ fullShare.right (xH m (opp c) 512 _) _ _ _ (outH m c (nxt c) 512 _)) $$ [HO Hr2 Hdesk Hf1 Ho1]
  · isplitr; · iexact Hlev
    isplitl [HO]; · iexact HO
    isplitl [Hr2]; · iexact Hr2
    isplitl [Hdesk]; · iexact Hdesk
    isplitl [Hf1]; · iexact Hf1
    iexact Ho1
  iintro ⟨HO, Hdesk, HD1, Hf1⟩
  iapply Hk
  isplitl [HO]; · iexact HO
  isplitl [Hdesk]; · iexact Hdesk
  isplitl [Hz5]; · iexact Hz5
  isplitl [Hz13]; · iexact Hz13
  isplitl [Hc2]; · iexact Hc2
  isplitl [Hc3]; · iexact Hc3
  isplitl [Hc10]; · iexact Hc10
  isplitl [Hc11]; · iexact Hc11
  isplitl [HD0]; · iexact HD0
  isplitl [HD1]; · iexact HD1
  isplitl [Hf0]; · iexact Hf0
  iexact Hf1

/-- A wait for a quarter that has come in. -/
theorem wp_come_qtr {Q : PUnit → sProp 𝕄} (K : Dev nD × Fin 17 → ℕ) (c : Dev nD) (k : Pg F) (q : DmaSem sig) (hq : q.val < 16) (hq' : ¬ q.val % 4 < 2) (n : ℕ)
    (hlv : Below (.dma q) n) {s' : Shape} {sp' : Space} (src : Memref sig .tc sp' s' .f32) (o : Dev nD) (a : ℕ) (ha : a + 256 ≤ 1024)
    (hp : pay m c q.val = (owns (c : Thread nD τ) (qtr o a ha) fullShare (xQ m o a ha) : sProp 𝕄)) :
    iprop(records m K ∗ levAts L lv ∗ due c q ∗ debt c n ∗ spot c q)
      ⊢ iprop(((debt c n ∗ zero c q ∗ owns (c : Thread nD τ) (qtr o a ha) fullShare (xQ m o a ha))
            -∗ wp frame (wpE (defs₀ (F := F)) 𝒱₀ (c : Thread nD τ) none) Set.univ k Q)
          -∗ wp frame (wpE (defs₀ (F := F)) 𝒱₀ (c : Thread nD τ) none) Set.univ (await q src (qtr o a ha) k) Q) := by
  iintro H Hk
  iapply (wp_wait_ring m K c k q hq n hlv ((qtr_credit o a ha).trans (amt_qtr q hq').symm)) $$ H
  iintro ⟨HO, Hz, Hp⟩
  ihave Hp := (Entails.of_eq hp) $$ Hp
  iapply Hk
  isplitl [HO]; · iexact HO
  isplitl [Hz]; · iexact Hz
  iexact Hp

theorem wp_last {Q : PUnit → sProp 𝕄} (K : Dev nD × Fin 17 → ℕ) (c : Dev nD) (k : Pg F) {s s' : Shape} (a a' : ℕ) (ha : a + 256 ≤ 1024) (ha' : a' + 256 ≤ 1024)
    (r l : DmaSem sig) (hr : r.val < 16) (hl : l.val < 16) (hr' : ¬ r.val % 4 < 2) (hl' : ¬ l.val % 4 < 2)
    (hpr : pay m c r.val = (owns (c : Thread nD τ) (qtr (nxt c) a ha) fullShare (xQ m (nxt c) a ha) : sProp 𝕄))
    (hpl : pay m c l.val = (owns (c : Thread nD τ) (qtr (prv c) a' ha') fullShare (xQ m (prv c) a' ha') : sProp 𝕄))
    (t : Memref sig .tc .vmem s .f32) (t' : Memref sig .tc .vmem s' .f32) (p : Memref sig .tc .hbm s .f32) (p' : Memref sig .tc .hbm s' .f32)
    (D D' : sProp 𝕄) :
    iprop(records m K ∗ levAts L lv ∗ debt c 0 ∗ desk m c ∗ due c r ∗ spot c r ∗ due c l ∗ spot c l
        ∗ flying c (ds 18) 0 p.view.dmaCredit D ∗ free (c : Thread nD τ) (oQtr (nxt c) a ha)
        ∗ flying c (ds 19) 1 p'.view.dmaCredit D' ∗ free (c : Thread nD τ) (oQtr (prv c) a' ha'))
      ⊢ iprop(((debt c 0 ∗ desk m c ∗ zero c r ∗ zero c l ∗ D ∗ D' ∗ flyQ m c (ds 18) 0 (nxt c) a ha ∗ flyQ m c (ds 19) 1 (prv c) a' ha')
            -∗ wp frame (wpE (defs₀ (F := F)) 𝒱₀ (c : Thread nD τ) none) Set.univ k Q)
          -∗ wp frame (wpE (defs₀ (F := F)) 𝒱₀ (c : Thread nD τ) none) Set.univ (lastQ c a a' ha ha' r l t t' p p' k) Q) := by
  iintro ⟨#HR, #Hlev, HO, Hdesk, Hcr, Har, Hcl, Hal, Hf0, Ho0, Hf1, Ho1⟩ Hk
  iapply (wp_come_qtr m K c _ r hr hr' 0 (fun i hi => absurd hi (Nat.not_lt_zero _)) _ (nxt c) a ha hpr) $$ [Hcr HO Har]
  · isplitr; · iexact HR
    isplitr; · iexact Hlev
    isplitl [Hcr]; · iexact Hcr
    isplitl [HO]; · iexact HO
    iexact Har
  iintro ⟨HO, Hzr, Hr⟩
  iapply (wp_come_qtr m K c _ l hl hl' 0 (fun i hi => absurd hi (Nat.not_lt_zero _)) _ (prv c) a' ha' hpl) $$ [Hcl HO Hal]
  · isplitr; · iexact HR
    isplitr; · iexact Hlev
    isplitl [Hcl]; · iexact Hcl
    isplitl [HO]; · iexact HO
    iexact Hal
  iintro ⟨HO, Hzl, Hl⟩
  iapply (wp_nextQ m c 0 _ 0 _ (by decide) (by decide) _ fullShare (xQ m (nxt c) a ha) _ t p D) $$ [HO Hr Hdesk Hf0 Ho0]
  · isplitr; · iexact Hlev
    isplitl [HO]; · iexact HO
    isplitl [Hr]; · iexact Hr
    isplitl [Hdesk]; · iexact Hdesk
    isplitl [Hf0]; · iexact Hf0
    iexact Ho0
  iintro ⟨HO, Hdesk, HD0, Hf0⟩
  iapply (wp_nextQ m c 1 _ 0 _ (by decide) (by decide) _ fullShare (xQ m (prv c) a' ha') _ t' p' D') $$ [HO Hl Hdesk Hf1 Ho1]
  · isplitr; · iexact Hlev
    isplitl [HO]; · iexact HO
    isplitl [Hl]; · iexact Hl
    isplitl [Hdesk]; · iexact Hdesk
    isplitl [Hf1]; · iexact Hf1
    iexact Ho1
  iintro ⟨HO, Hdesk, HD1, Hf1⟩
  iapply Hk
  isplitl [HO]; · iexact HO
  isplitl [Hdesk]; · iexact Hdesk
  isplitl [Hzr]; · iexact Hzr
  isplitl [Hzl]; · iexact Hzl
  isplitl [HD0]; · iexact HD0
  isplitl [HD1]; · iexact HD1
  isplitl [Hf0]; · iexact Hf0
  iexact Hf1

/-- A wait for one of the device's own sends, at the end. -/
theorem wp_sent {Q : PUnit → sProp 𝕄} (K : Dev nD × Fin 17 → ℕ) (c : Dev nD) (k : Pg F) (q : DmaSem sig) (hq : q.val < 16)
    {s s' : Shape} {sp sp' : Space} (src : Memref sig .tc sp s .f32) (dst : Memref sig .tc sp' s' .f32) (hN : dst.view.dmaCredit = amt (.dma q)) :
    iprop(records m K ∗ levAts L lv ∗ due c q ∗ debt c 0 ∗ spot c q)
      ⊢ iprop(((debt c 0 ∗ zero c q) -∗ wp frame (wpE (defs₀ (F := F)) 𝒱₀ (c : Thread nD τ) none) Set.univ k Q)
          -∗ wp frame (wpE (defs₀ (F := F)) 𝒱₀ (c : Thread nD τ) none) Set.univ (await q src dst k) Q) := by
  iintro H Hk
  iapply (wp_wait_ring m K c k q hq 0 (fun i hi => absurd hi (Nat.not_lt_zero _)) hN) $$ H
  iintro ⟨HO, Hz, -⟩
  iapply Hk
  isplitl [HO]; · iexact HO
  iexact Hz

theorem wp_end {Q : PUnit → sProp 𝕄} (K : Dev nD × Fin 17 → ℕ) (c : Dev nD) :
    iprop(records m K ∗ levAts L lv ∗ debt c 0
        ∗ (due c (ds 0) ∗ spot c (ds 0)) ∗ (due c (ds 8) ∗ spot c (ds 8)) ∗ (due c (ds 1) ∗ spot c (ds 1)) ∗ (due c (ds 9) ∗ spot c (ds 9))
        ∗ (due c (ds 2) ∗ spot c (ds 2)) ∗ (due c (ds 3) ∗ spot c (ds 3)) ∗ (due c (ds 10) ∗ spot c (ds 10)) ∗ (due c (ds 11) ∗ spot c (ds 11))
        ∗ flyQ m c (ds 18) 0 (nxt c) 256 ∗ flyQ m c (ds 19) 1 (prv c) 768)
      ⊢ iprop(((debt c 0 ∗ zero c (ds 0) ∗ zero c (ds 8) ∗ zero c (ds 1) ∗ zero c (ds 9) ∗ zero c (ds 2) ∗ zero c (ds 3) ∗ zero c (ds 10) ∗ zero c (ds 11)
              ∗ (outQ m c (nxt c) 256 ∗ free (c : Thread nD τ) (tile 0) ∗ zero c (ds 18)) ∗ (outQ m c (prv c) 768 ∗ free (c : Thread nD τ) (tile 1) ∗ zero c (ds 19)))
            -∗ Q ⟨⟩)
          -∗ wp frame (wpE (defs₀ (F := F)) 𝒱₀ (c : Thread nD τ) none) Set.univ (flowEnd c) Q) := by
  iintro ⟨#HR, #Hlev, HO, H0, H8, H1, H9, H2, H3, H10, H11, Hf0, Hf1⟩ Hk
  icases H0 with ⟨Hc, Ha⟩
  iapply (wp_sent m K c _ _ (by decide) _ _ ((xHalf_credit 0 _).trans (amt_half _ (by decide)).symm)) $$ [Hc HO Ha]
  · isplitr; · iexact HR
    isplitr; · iexact Hlev
    isplitl [Hc]; · iexact Hc
    isplitl [HO]; · iexact HO
    iexact Ha
  iintro ⟨HO, Hz0⟩
  icases H8 with ⟨Hc, Ha⟩
  iapply (wp_sent m K c _ _ (by decide) _ _ ((xHalf_credit 512 _).trans (amt_half _ (by decide)).symm)) $$ [Hc HO Ha]
  · isplitr; · iexact HR
    isplitr; · iexact Hlev
    isplitl [Hc]; · iexact Hc
    isplitl [HO]; · iexact HO
    iexact Ha
  iintro ⟨HO, Hz8⟩
  icases H1 with ⟨Hc, Ha⟩
  iapply (wp_sent m K c _ _ (by decide) _ _ ((half_credit (prv c) 0 _).trans (amt_half _ (by decide)).symm)) $$ [Hc HO Ha]
  · isplitr; · iexact HR
    isplitr; · iexact Hlev
    isplitl [Hc]; · iexact Hc
    isplitl [HO]; · iexact HO
    iexact Ha
  iintro ⟨HO, Hz1⟩
  icases H9 with ⟨Hc, Ha⟩
  iapply (wp_sent m K c _ _ (by decide) _ _ ((half_credit (nxt c) 512 _).trans (amt_half _ (by decide)).symm)) $$ [Hc HO Ha]
  · isplitr; · iexact HR
    isplitr; · iexact Hlev
    isplitl [Hc]; · iexact Hc
    isplitl [HO]; · iexact HO
    iexact Ha
  iintro ⟨HO, Hz9⟩
  icases H2 with ⟨Hc, Ha⟩
  iapply (wp_sent m K c _ _ (by decide) _ _ ((qtr_credit (opp c) 0 _).trans (amt_qtr _ (by decide)).symm)) $$ [Hc HO Ha]
  · isplitr; · iexact HR
    isplitr; · iexact Hlev
    isplitl [Hc]; · iexact Hc
    isplitl [HO]; · iexact HO
    iexact Ha
  iintro ⟨HO, Hz2⟩
  icases H3 with ⟨Hc, Ha⟩
  iapply (wp_sent m K c _ _ (by decide) _ _ ((qtr_credit (opp c) 256 _).trans (amt_qtr _ (by decide)).symm)) $$ [Hc HO Ha]
  · isplitr; · iexact HR
    isplitr; · iexact Hlev
    isplitl [Hc]; · iexact Hc
    isplitl [HO]; · iexact HO
    iexact Ha
  iintro ⟨HO, Hz3⟩
  icases H10 with ⟨Hc, Ha⟩
  iapply (wp_sent m K c _ _ (by decide) _ _ ((qtr_credit (opp c) 512 _).trans (amt_qtr _ (by decide)).symm)) $$ [Hc HO Ha]
  · isplitr; · iexact HR
    isplitr; · iexact Hlev
    isplitl [Hc]; · iexact Hc
    isplitl [HO]; · iexact HO
    iexact Ha
  iintro ⟨HO, Hz10⟩
  icases H11 with ⟨Hc, Ha⟩
  iapply (wp_sent m K c _ _ (by decide) _ _ ((qtr_credit (opp c) 768 _).trans (amt_qtr _ (by decide)).symm)) $$ [Hc HO Ha]
  · isplitr; · iexact HR
    isplitr; · iexact Hlev
    isplitl [Hc]; · iexact Hc
    isplitl [HO]; · iexact HO
    iexact Ha
  iintro ⟨HO, Hz11⟩
  iapply (wp_landed c _ _ 0 0 (by decide) (D := outQ m c (nxt c) 256 _)) $$ [Hf0 HO]
  · isplitr; · iexact Hlev
    isplitl [Hf0]; · iexact Hf0
    iexact HO
  iintro ⟨HD0, Ht0, Hz18, HO⟩
  iapply (wp_landed c _ _ 1 0 (by decide) (D := outQ m c (prv c) 768 _)) $$ [Hf1 HO]
  · isplitr; · iexact Hlev
    isplitl [Hf1]; · iexact Hf1
    iexact HO
  iintro ⟨HD1, Ht1, Hz19, HO⟩
  rw [wp_ret]
  imodintro
  iapply Hk
  isplitl [HO]; · iexact HO
  isplitl [Hz0]; · iexact Hz0
  isplitl [Hz8]; · iexact Hz8
  isplitl [Hz1]; · iexact Hz1
  isplitl [Hz9]; · iexact Hz9
  isplitl [Hz2]; · iexact Hz2
  isplitl [Hz3]; · iexact Hz3
  isplitl [Hz10]; · iexact Hz10
  isplitl [Hz11]; · iexact Hz11
  isplitl [HD0 Ht0 Hz18]
  · isplitl [HD0]; · iexact HD0
    isplitl [Ht0]; · iexact Ht0
    iexact Hz18
  isplitl [HD1]; · iexact HD1
  isplitl [Ht1]; · iexact Ht1
  iexact Hz19

end Cert.KernelIdealRing
-- ==== Proof.KernelIdealBody.lean ====
/-
The kernel's body on one device: from what the device is launched with to every counter at zero and its rows of the
result at their products.
-/
module

public import proofs.«01_k».proof.Proof.KernelIdealStages

public import proofs.«01_k».proof.Proof.Gen.KernelIdeal.Points

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## What a device starts with and ends with -/

/-- Its place in the round of each of its cells. -/
def positions (c : Dev nD) : sProp 𝕄 :=
  iprop(spot c (ds 0) ∗ spot c (ds 1) ∗ spot c (ds 2) ∗ spot c (ds 3) ∗ spot c (ds 4) ∗ spot c (ds 5) ∗ spot c (ds 6) ∗ spot c (ds 7) ∗ spot c (ds 8) ∗ spot c (ds 9) ∗ spot c (ds 10) ∗ spot c (ds 11) ∗ spot c (ds 12) ∗ spot c (ds 13) ∗ spot c (ds 14) ∗ spot c (ds 15)
    ∗ atPos ER (bcell c) 0 ∅ 0)
/-- The right to pay each duty it will pay. -/
def tokens (c : Dev nD) : sProp 𝕄 :=
  iprop(tok c (ds 0) ∗ tok c (ds 1) ∗ tok c (ds 2) ∗ tok c (ds 3) ∗ tok (nxt c) (ds 4) ∗ tok (nxt c) (ds 5) ∗ tok (nxt c) (ds 6) ∗ tok (nxt c) (ds 7) ∗ tok c (ds 8) ∗ tok c (ds 9) ∗ tok c (ds 10) ∗ tok c (ds 11) ∗ tok (prv c) (ds 12) ∗ tok (prv c) (ds 13) ∗ tok (prv c) (ds 14) ∗ tok (prv c) (ds 15)
    ∗ dutyTok ER (bcell (prv c)) 0 false ∗ dutyTok ER (bcell (nxt c)) 0 true)
/-- The credit for what its neighbours will pay it. -/
def credits (c : Dev nD) : sProp 𝕄 :=
  iprop(due c (ds 4) ∗ due c (ds 5) ∗ due c (ds 6) ∗ due c (ds 7) ∗ due c (ds 12) ∗ due c (ds 13) ∗ due c (ds 14) ∗ due c (ds 15) ∗ cred (tallyAt (bcell c) () 2))
/-- A half share of its blocks of `x` and `w`, and its two outputs at any contents. -/
def arrays (c : Dev nD) : sProp 𝕄 :=
  iprop((((c : Thread nD τ).loc main_arg0) ↦{fullShare.right} m ((c : Thread nD τ).loc main_arg0))
    ∗ (((c : Thread nD τ).loc main_arg1) ↦{fullShare.right} m ((c : Thread nD τ).loc main_arg1))
    ∗ (∃ f, (((c : Thread nD τ).loc main_v1_0) ↦{fullShare} f)) ∗ ∃ f, (((c : Thread nD τ).loc main_v1_1) ↦{fullShare} f))
/-- Its own memory, at any contents. -/
def scratch (c : Dev nD) : sProp 𝕄 :=
  iprop(free (c : Thread nD τ) wV ∗ free (c : Thread nD τ) xV ∗ free (c : Thread nD τ) tV)
/-- All a device starts with. -/
def start (c : Dev nD) : sProp 𝕄 :=
  iprop((∃ K, records m K) ∗ positions c ∗ tokens c ∗ credits c ∗ levAts L lv ∗ arrays m c
    ∗ (zero c (ds 16) ∗ zero c (ds 17) ∗ zero c (ds 18) ∗ zero c (ds 19)))
/-- What it ends with: every counter at zero, and its rows of the result at their products. -/
def done (c : Dev nD) : sProp 𝕄 :=
  iprop((zero c (ds 0) ∗ zero c (ds 1) ∗ zero c (ds 2) ∗ zero c (ds 3) ∗ zero c (ds 4) ∗ zero c (ds 5) ∗ zero c (ds 6) ∗ zero c (ds 7) ∗ zero c (ds 8) ∗ zero c (ds 9) ∗ zero c (ds 10) ∗ zero c (ds 11) ∗ zero c (ds 12) ∗ zero c (ds 13) ∗ zero c (ds 14) ∗ zero c (ds 15) ∗ zero c (ds 16) ∗ zero c (ds 17) ∗ zero c (ds 18) ∗ zero c (ds 19))
    ∗ semVal (bcell c) 0 ∗ ∃ f, ⌜Spec m c f⌝ ∗ (((c : Thread nD τ).loc main_v1_0) ↦{fullShare} f))

theorem rightGive_bands (d : Dev nD) : (rightGive d : sProp 𝕄)
    = iprop(free (d : Thread nD τ) (half (prv d) 0) ∗ free (d : Thread nD τ) (half (opp d) 0)
      ∗ free (d : Thread nD τ) (qtr (nxt d) 0) ∗ free (d : Thread nD τ) (qtr (nxt d) 256)) := rfl
theorem leftGive_bands (d : Dev nD) : (leftGive d : sProp 𝕄)
    = iprop(free (d : Thread nD τ) (half (nxt d) 512) ∗ free (d : Thread nD τ) (half (opp d) 512)
      ∗ free (d : Thread nD τ) (qtr (prv d) 512) ∗ free (d : Thread nD τ) (qtr (prv d) 768)) := rfl

/-- The device's block of `x` at four shares, a half of its rows at each. -/
theorem x_shares (c : Dev nD) :
    ((((c : Thread nD τ).loc main_arg0) ↦{fullShare.right} m ((c : Thread nD τ).loc main_arg0)) : sProp 𝕄)
      ⊢ iprop(owns (c : Thread nD τ) (xHalf 0) fullShare.right.left.left (xH m c 0) ∗ owns (c : Thread nD τ) (xHalf 512) fullShare.right.left.right (xH m c 512)
        ∗ owns (c : Thread nD τ) (xHalf 0) fullShare.right.right.left (xH m c 0) ∗ owns (c : Thread nD τ) (xHalf 512) fullShare.right.right.right (xH m c 512)) := by
  iintro H
  ihave H := (pointsTo_share (PosShare.mem_left_op_right fullShare.right)).1 $$ H
  icases H with ⟨Hl, Hr⟩
  ihave Hl := (pointsTo_share (PosShare.mem_left_op_right fullShare.right.left)).1 $$ Hl
  icases Hl with ⟨H1, H2⟩
  ihave Hr := (pointsTo_share (PosShare.mem_left_op_right fullShare.right.right)).1 $$ Hr
  icases Hr with ⟨H3, H4⟩
  isplitl [H1]; · iapply (owns_take (c : Thread nD τ) main_arg0 fullShare.right.left.left _ (Rect.unit (s := S1024x4096) ![0, 0] S512x4096.size (xHalf_inb 0 (by decide))) (fun _ => rfl)); iexact H1
  isplitl [H2]; · iapply (owns_take (c : Thread nD τ) main_arg0 fullShare.right.left.right _ (Rect.unit (s := S1024x4096) ![512, 0] S512x4096.size (xHalf_inb 512 (by decide))) (fun _ => rfl)); iexact H2
  isplitl [H3]; · iapply (owns_take (c : Thread nD τ) main_arg0 fullShare.right.right.left _ (Rect.unit (s := S1024x4096) ![0, 0] S512x4096.size (xHalf_inb 0 (by decide))) (fun _ => rfl)); iexact H3
  iapply (owns_take (c : Thread nD τ) main_arg0 fullShare.right.right.right _ (Rect.unit (s := S1024x4096) ![512, 0] S512x4096.size (xHalf_inb 512 (by decide))) (fun _ => rfl)); iexact H4

theorem w_share (c : Dev nD) :
    ((((c : Thread nD τ).loc main_arg1) ↦{fullShare.right} m ((c : Thread nD τ).loc main_arg1)) : sProp 𝕄)
      ⊢ owns (c : Thread nD τ) wM fullShare.right (wW m c) := by
  unfold owns
  iintro H
  iexists (m ((c : Thread nD τ).loc main_arg1))
  isplitr; · ipureintro; rfl
  rw [View.set_whole]
  iexact H

/-- The body. -/
theorem sound_flow {Q : PUnit → sProp 𝕄} (c : Dev nD) :
    iprop(start m c ∗ scratch c ∗ debt c 10)
      ⊢ iprop(((done m c ∗ scratch c ∗ debt c 0) -∗ Q ⟨⟩)
          -∗ wp frame (wpE (defs₀ (F := F)) 𝒱₀ (c : Thread nD τ) none) Set.univ (flow c) Q) := by
  unfold start scratch positions tokens credits arrays
  iintro ⟨⟨⟨%K, #HR⟩, ⟨Ha0, Ha1, Ha2, Ha3, Ha4, Ha5, Ha6, Ha7, Ha8, Ha9, Ha10, Ha11, Ha12, Ha13, Ha14, Ha15, HaB⟩, ⟨Ht0, Ht1, Ht2, Ht3, Ht4, Ht5, Ht6, Ht7, Ht8, Ht9, Ht10, Ht11, Ht12, Ht13, Ht14, Ht15, HtP, HtN⟩, ⟨Hc4, Hc5, Hc6, Hc7, Hc12, Hc13, Hc14, Hc15, HcB⟩, #Hlev, ⟨Hx, Hw, ⟨%fo, Ho⟩, ⟨%fg, Hg⟩⟩, ⟨Hz16, Hz17, Hz18, Hz19⟩⟩, ⟨Hwv, Hxv, Htv⟩, HO⟩ Hk
  ihave Hx := (x_shares m c) $$ Hx
  icases Hx with ⟨Hx1, Hx2, Hx3, Hx4⟩
  ihave Hw := (w_share m c) $$ Hw
  ihave Ho := (result_split c fo) $$ Ho
  icases Ho with ⟨Ho0, Ho1, Ho2, Ho3, Ho4, Ho5, Ho6, Ho7, Ho8, Ho9⟩
  ihave Hg := (gathered_split c fg) $$ Hg
  icases Hg with ⟨HgR, HgL⟩
  ihave HgR := (Entails.of_eq (rightGive_bands c).symm) $$ HgR
  ihave HgL := (Entails.of_eq (leftGive_bands c).symm) $$ HgL
  ihave Hxv := (Entails.of_eq (free_full (c : Thread nD τ) xV rowsHR (fun _ => rfl) rowsHR_set).symm) $$ Hxv
  ihave Htv := (tiles_split c) $$ Htv
  icases Htv with ⟨Htl0, Htl1⟩
  iapply (wp_own m K c _ fullShare.right fullShare.right.left.left fullShare.right.left.right fullShare.right.right.left fullShare.right.right.right) $$ [HO Hw Hwv Hz16 Hxv Hz17 HtP HtN HgR HgL HcB HaB Hx1 Ht0 Ht4 Hx2 Ht8 Ht12 Hx3 Htl0 Hz18 Ho0 Hx4 Htl1 Hz19 Ho1]
  · isplitr; · iexact HR
    isplitr; · iexact Hlev
    isplitl [HO]; · iexact HO
    isplitl [Hw]; · iexact Hw
    isplitl [Hwv]; · iexact Hwv
    isplitl [Hz16]; · iexact Hz16
    isplitl [Hxv]; · iexact Hxv
    isplitl [Hz17]; · iexact Hz17
    isplitl [HtP]; · iexact HtP
    isplitl [HtN]; · iexact HtN
    isplitl [HgR]; · iexact HgR
    isplitl [HgL]; · iexact HgL
    isplitl [HcB]; · iexact HcB
    isplitl [HaB]; · iexact HaB
    isplitl [Hx1]; · iexact Hx1
    isplitl [Ht0]; · iexact Ht0
    isplitl [Ht4]; · iexact Ht4
    isplitl [Hx2]; · iexact Hx2
    isplitl [Ht8]; · iexact Ht8
    isplitl [Ht12]; · iexact Ht12
    isplitl [Hx3]; · iexact Hx3
    isplitl [Htl0]; · iexact Htl0
    isplitl [Hz18]; · iexact Hz18
    isplitl [Ho0]; · iexact Ho0
    isplitl [Hx4]; · iexact Hx4
    isplitl [Htl1]; · iexact Htl1
    isplitl [Hz19]; · iexact Hz19
    iexact Ho1
  iintro ⟨HO, Hz16, HzB, Hc0, Hc8, Hdesk, Hf0, Hf1, ⟨Hd1, Hd2, Hd3⟩, ⟨Hd4, Hd5, Hd6⟩⟩
  iapply (wp_nbr m K c _) $$ [HO Hdesk Hc4 Ha4 Hd1 Ht1 Ht5 Hc12 Ha12 Hd4 Ht9 Ht13 Hf0 Ho2 Hf1 Ho3]
  · isplitr; · iexact HR
    isplitr; · iexact Hlev
    isplitl [HO]; · iexact HO
    isplitl [Hdesk]; · iexact Hdesk
    isplitl [Hc4]; · iexact Hc4
    isplitl [Ha4]; · iexact Ha4
    isplitl [Hd1]; · iexact Hd1
    isplitl [Ht1]; · iexact Ht1
    isplitl [Ht5]; · iexact Ht5
    isplitl [Hc12]; · iexact Hc12
    isplitl [Ha12]; · iexact Ha12
    isplitl [Hd4]; · iexact Hd4
    isplitl [Ht9]; · iexact Ht9
    isplitl [Ht13]; · iexact Ht13
    isplitl [Hf0]; · iexact Hf0
    isplitl [Ho2]; · iexact Ho2
    isplitl [Hf1]; · iexact Hf1
    iexact Ho3
  iintro ⟨HO, Hdesk, Hz4, Hz12, Hc1, Hc9, HD0, HD1, Hf0, Hf1⟩
  iapply (wp_opp m K c _) $$ [HO Hdesk Hc5 Ha5 Hd2 Ht2 Ht6 Hd3 Ht3 Ht7 Hc13 Ha13 Hd5 Ht10 Ht14 Hd6 Ht11 Ht15 Hf0 Ho4 Hf1 Ho5]
  · isplitr; · iexact HR
    isplitr; · iexact Hlev
    isplitl [HO]; · iexact HO
    isplitl [Hdesk]; · iexact Hdesk
    isplitl [Hc5]; · iexact Hc5
    isplitl [Ha5]; · iexact Ha5
    isplitl [Hd2]; · iexact Hd2
    isplitl [Ht2]; · iexact Ht2
    isplitl [Ht6]; · iexact Ht6
    isplitl [Hd3]; · iexact Hd3
    isplitl [Ht3]; · iexact Ht3
    isplitl [Ht7]; · iexact Ht7
    isplitl [Hc13]; · iexact Hc13
    isplitl [Ha13]; · iexact Ha13
    isplitl [Hd5]; · iexact Hd5
    isplitl [Ht10]; · iexact Ht10
    isplitl [Ht14]; · iexact Ht14
    isplitl [Hd6]; · iexact Hd6
    isplitl [Ht11]; · iexact Ht11
    isplitl [Ht15]; · iexact Ht15
    isplitl [Hf0]; · iexact Hf0
    isplitl [Ho4]; · iexact Ho4
    isplitl [Hf1]; · iexact Hf1
    iexact Ho5
  iintro ⟨HO, Hdesk, Hz5, Hz13, Hc2, Hc3, Hc10, Hc11, HD2, HD3, Hf0, Hf1⟩
  iapply (wp_last m K c _ 0 512 _ _ _ _ (by decide) (by decide) (by decide) (by decide) rfl rfl _ _ _ _ (outH m c (opp c) 0 _) (outH m c (opp c) 512 _)) $$ [HO Hdesk Hc6 Ha6 Hc14 Ha14 Hf0 Ho6 Hf1 Ho7]
  · isplitr; · iexact HR
    isplitr; · iexact Hlev
    isplitl [HO]; · iexact HO
    isplitl [Hdesk]; · iexact Hdesk
    isplitl [Hc6]; · iexact Hc6
    isplitl [Ha6]; · iexact Ha6
    isplitl [Hc14]; · iexact Hc14
    isplitl [Ha14]; · iexact Ha14
    isplitl [Hf0]; · iexact Hf0
    isplitl [Ho6]; · iexact Ho6
    isplitl [Hf1]; · iexact Hf1
    iexact Ho7
  iintro ⟨HO, Hdesk, Hz6, Hz14, HD4, HD5, Hf0, Hf1⟩
  iapply (wp_last m K c _ 256 768 _ _ _ _ (by decide) (by decide) (by decide) (by decide) rfl rfl _ _ _ _ (outQ m c (nxt c) 0 _) (outQ m c (prv c) 512 _)) $$ [HO Hdesk Hc7 Ha7 Hc15 Ha15 Hf0 Ho8 Hf1 Ho9]
  · isplitr; · iexact HR
    isplitr; · iexact Hlev
    isplitl [HO]; · iexact HO
    isplitl [Hdesk]; · iexact Hdesk
    isplitl [Hc7]; · iexact Hc7
    isplitl [Ha7]; · iexact Ha7
    isplitl [Hc15]; · iexact Hc15
    isplitl [Ha15]; · iexact Ha15
    isplitl [Hf0]; · iexact Hf0
    isplitl [Ho8]; · iexact Ho8
    isplitl [Hf1]; · iexact Hf1
    iexact Ho9
  iintro ⟨HO, Hdesk, Hz7, Hz15, HD6, HD7, Hf0, Hf1⟩
  iapply (wp_end m K c) $$ [HO Hc0 Ha0 Hc8 Ha8 Hc1 Ha1 Hc9 Ha9 Hc2 Ha2 Hc3 Ha3 Hc10 Ha10 Hc11 Ha11 Hf0 Hf1]
  · isplitr; · iexact HR
    isplitr; · iexact Hlev
    isplitl [HO]; · iexact HO
    isplitl [Hc0 Ha0]
    · isplitl [Hc0]; · iexact Hc0
      iexact Ha0
    isplitl [Hc8 Ha8]
    · isplitl [Hc8]; · iexact Hc8
      iexact Ha8
    isplitl [Hc1 Ha1]
    · isplitl [Hc1]; · iexact Hc1
      iexact Ha1
    isplitl [Hc9 Ha9]
    · isplitl [Hc9]; · iexact Hc9
      iexact Ha9
    isplitl [Hc2 Ha2]
    · isplitl [Hc2]; · iexact Hc2
      iexact Ha2
    isplitl [Hc3 Ha3]
    · isplitl [Hc3]; · iexact Hc3
      iexact Ha3
    isplitl [Hc10 Ha10]
    · isplitl [Hc10]; · iexact Hc10
      iexact Ha10
    isplitl [Hc11 Ha11]
    · isplitl [Hc11]; · iexact Hc11
      iexact Ha11
    isplitl [Hf0]; · iexact Hf0
    iexact Hf1
  iintro ⟨HO, Hz0, Hz8, Hz1, Hz9, Hz2, Hz3, Hz10, Hz11, ⟨HD8, Htl0, Hz18⟩, ⟨HD9, Htl1, Hz19⟩⟩
  unfold desk
  icases Hdesk with ⟨Hxv, Hwv, Hz17⟩
  ihave Hout := (result_join m c) $$ [HD0 HD1 HD2 HD3 HD4 HD5 HD6 HD7 HD8 HD9]
  · isplitl [HD0]; · iexact HD0
    isplitl [HD1]; · iexact HD1
    isplitl [HD2]; · iexact HD2
    isplitl [HD3]; · iexact HD3
    isplitl [HD4]; · iexact HD4
    isplitl [HD5]; · iexact HD5
    isplitl [HD6]; · iexact HD6
    isplitl [HD7]; · iexact HD7
    isplitl [HD8]; · iexact HD8
    iexact HD9
  iapply Hk
  unfold done
  isplitl [Hz0 Hz1 Hz2 Hz3 Hz4 Hz5 Hz6 Hz7 Hz8 Hz9 Hz10 Hz11 Hz12 Hz13 Hz14 Hz15 Hz16 Hz17 Hz18 Hz19 HzB Hout]
  · isplitl [Hz0 Hz1 Hz2 Hz3 Hz4 Hz5 Hz6 Hz7 Hz8 Hz9 Hz10 Hz11 Hz12 Hz13 Hz14 Hz15 Hz16 Hz17 Hz18 Hz19]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      iexact Hz19
    isplitl [HzB]; · iexact HzB
    iexact Hout
  isplitl [Hxv Hwv Htl0 Htl1]
  · isplitl [Hwv]
    · ihave Hwv := (free_of_owns (c : Thread nD τ) (wV.slice wR (fun _ => rfl)) (wL m c)) $$ Hwv
      ihave Hwv := (Entails.of_eq (free_full (c : Thread nD τ) wV wR (fun _ => rfl) wR_set)) $$ Hwv
      iexact Hwv
    isplitl [Hxv]
    · ihave Hxv := (Entails.of_eq (free_full (c : Thread nD τ) xV rowsHR (fun _ => rfl) rowsHR_set)) $$ Hxv
      iexact Hxv
    iapply (tiles_join c)
    isplitl [Htl0]; · iexact Htl0
    iexact Htl1
  iexact HO

theorem bodyAt_eq (t : Fin cfg0.N) : bodyAt0 (F := F) t = .op .deviceId fun c => flow c := body_eq

set_option maxRecDepth 65536 in
/-- The printed body. -/
theorem sound_body {Q : PUnit → sProp 𝕄} (c : Dev nD) (t : Fin cfg0.N) :
    iprop(start m c ∗ scratch c ∗ debt c 10)
      ⊢ iprop(((done m c ∗ scratch c ∗ debt c 0) -∗ Q ⟨⟩)
          -∗ wp frame (wpE (defs₀ (F := F)) 𝒱₀ (c : Thread nD τ) none) Set.univ (bodyAt0 (F := F) t) Q) := by
  rw [bodyAt_eq t, wp_deviceId]
  exact sound_flow m c

end Cert.KernelIdealRing
-- ==== Proof.KernelIdealDeal.lean ====
/-
What the launch deals to the devices: the protocol's cells on every device, the tokens of their duties passed around the
ring to the devices that pay them, and the credit for what each device will be paid.
-/
module

public import proofs.«01_k».proof.Proof.KernelIdealBody
public import proofs.«01_k».proof.Proof.Gen.KernelIdeal.Launch

public import Idealize.ShloMosaic.Lib.Pipeline.Launch
public import Idealize.ShloMosaic.Lib.Pipeline.Kit

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The cells and the tokens -/

theorem csem_injective : Function.Injective csem := fun k k' h => by revert k k'; decide
theorem kcell_injective : Function.Injective (kcell : Dev nD × Fin 17 → GSem nD τ sig) := fun ⟨c, k⟩ ⟨c', k'⟩ h =>
  Prod.ext (congrArg (fun g : GSem nD τ sig => g.1.1) h) (csem_injective (congrArg Prod.snd h))
/-- All cells of the ring. -/
def ringCells : Finset (GSem nD τ sig) := Finset.univ.map ⟨kcell, kcell_injective⟩

theorem duty_injective : Function.Injective fun j : Fin 18 => (dutySem j, dutyFlag j) := fun k k' h => by revert k k'; decide
/-- The token of a device's `j`-th duty. -/
abbrev tokOf (cj : Dev nD × Fin 18) : GSem nD τ sig × ℕ × Bool := (((cj.1 : Thread nD τ), dutySem cj.2), 0, dutyFlag cj.2)
theorem tokOf_injective : Function.Injective (tokOf : Dev nD × Fin 18 → GSem nD τ sig × ℕ × Bool) := fun ⟨c, j⟩ ⟨c', j'⟩ h =>
  Prod.ext (congrArg (fun x : GSem nD τ sig × ℕ × Bool => x.1.1.1) h)
    (duty_injective (congrArg (fun x : GSem nD τ sig × ℕ × Bool => (x.1.2, x.2.2)) h))
def ringToks : Finset (GSem nD τ sig × ℕ × Bool) := Finset.univ.map ⟨tokOf, tokOf_injective⟩

/-- The element the launch starts from: the pipeline's, the ring's, and no counter yet. -/
def u₀ : UU :=
  (initOf (Pipeline.cells cfgs cellOf_inj) (Pipeline.launchToks cfgs cellOf_inj), (initOf ringCells ringToks, (1 : Counters)))

/-- The tokens of the duties of a device's own cells. -/
def toks (c : Dev nD) : sProp 𝕄 :=
  bigSep Finset.univ fun j : Fin 18 => dutyTok ER ((c : Thread nD τ), dutySem j) 0 (dutyFlag j)
/-- The tokens of the duties a device pays. -/
def payToks (c : Dev nD) : sProp 𝕄 :=
  bigSep Finset.univ fun j : Fin 18 => dutyTok ER ((payee j c : Thread nD τ), dutySem j) 0 (dutyFlag j)

/-- What the launch element deals device `c`. -/
def G (c : Dev nD) : sProp 𝕄 :=
  iprop((bigSep Finset.univ fun k : Fin 17 => roundState ER (ringRd m) (kcell (c, k)) 0)
    ∗ (bigSep Finset.univ fun k : Fin 17 => iprop(atPos ER (kcell (c, k)) 0 ∅ 0 ∗ reached ER (kcell (c, k)) 0)) ∗ toks c)
/-- The counters of the semaphores that take no part in the protocol, at zero. -/
def localZeros (c : Dev nD) : sProp 𝕄 := iprop(zero c (ds 16) ∗ zero c (ds 17) ∗ zero c (ds 18) ∗ zero c (ds 19))
/-- What the device holds once the invariants are in place. -/
def G' (c : Dev nD) : sProp 𝕄 := iprop((∃ K, records m K) ∗ positions c ∗ tokens c ∗ localZeros c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters -/

/-- The kernel's own semaphores. -/
abbrev osem : Fin 20 → SemLoc sig := fun k => .dma (ds k.val k.isLt)

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(zero c (ds 0) ∗ zero c (ds 1) ∗ zero c (ds 2) ∗ zero c (ds 3) ∗ zero c (ds 4) ∗ zero c (ds 5) ∗ zero c (ds 6) ∗ zero c (ds 7) ∗ zero c (ds 8) ∗ zero c (ds 9) ∗ zero c (ds 10) ∗ zero c (ds 11) ∗ zero c (ds 12) ∗ zero c (ds 13) ∗ zero c (ds 14) ∗ zero c (ds 15) ∗ zero c (ds 16) ∗ zero c (ds 17) ∗ zero c (ds 18) ∗ zero c (ds 19)) := by
  rw [Pipeline.ownSems0_eq_of_list c osem [0, 1, 2, 3, 4, 5, 6, 7, 8, 9, 10, 11, 12, 13, 14, 15, 16, 17, 18, 19] (by decide) (by decide)]; rfl
theorem unscopedSems0_eq (c : Dev nD) : (unscopedSems0 c : sProp 𝕄) = semVal (bcell c) 0 := by
  unfold unscopedSems0; rw [bigSep_eq_bigSepL_of_eq [SemLoc.reg barS] (by decide) (by decide)]; rfl
/-- Something for each of a device's cells, written out. -/
theorem bigSep_cells (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_duties (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

theorem positions_eq (c : Dev nD) : (bigSep Finset.univ fun k : Fin 17 => (atPos ER (kcell (c, k)) 0 ∅ 0 : sProp 𝕄)) = positions c := by
  rw [bigSep_cells]; rfl
theorem tokens_eq (c : Dev nD) : (payToks c : sProp 𝕄) = tokens c := by
  unfold payToks; rw [bigSep_duties]; rfl
theorem counters_eq (c : Dev nD) : (bigSep Finset.univ fun k : Fin 17 => (semVal (kcell (c, k)) 0 : sProp 𝕄))
    = iprop(zero c (ds 0) ∗ zero c (ds 1) ∗ zero c (ds 2) ∗ zero c (ds 3) ∗ zero c (ds 4) ∗ zero c (ds 5) ∗ zero c (ds 6) ∗ zero c (ds 7) ∗ zero c (ds 8) ∗ zero c (ds 9) ∗ zero c (ds 10) ∗ zero c (ds 11) ∗ zero c (ds 12) ∗ zero c (ds 13) ∗ zero c (ds 14) ∗ zero c (ds 15) ∗ semVal (bcell c) 0) := by
  rw [bigSep_cells]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 17 => (semVal (kcell (c, k)) 0 : sProp 𝕄)) ∗ localZeros c) := by
  rw [ownSems0_eq, unscopedSems0_eq, counters_eq]
  unfold localZeros
  iintro ⟨⟨H0, H1, H2, H3, H4, H5, H6, H7, H8, H9, H10, H11, H12, H13, H14, H15, H⟩, HB⟩
  isplitr [H]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ localZeros c) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Fin 17 => semVal (kcell (c, k)) 0) ∗ bigSep Finset.univ fun k : Fin 17 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-! ## Dealing around the ring -/

/-- A family over pairs, taken in either order. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun ij : I × J => Φ ij.1 ij.2), ← bigSep_univ_prod (fun ji : J × I => Φ ji.2 ji.1)]
  exact bigSep_univ_equiv (Equiv.prodComm J I) _

/-- Every token goes to the device that pays its duty: one and the same shift of the devices for each duty. -/
theorem toks_around : (bigSep Finset.univ fun c : Dev nD => (toks c : sProp 𝕄)) = bigSep Finset.univ fun c : Dev nD => payToks c := by
  unfold toks payToks
  rw [bigSep_swap, bigSep_swap (fun (c : Dev nD) (j : Fin 18) => (dutyTok ER ((payee j c : Thread nD τ), dutySem j) 0 (dutyFlag j) : sProp 𝕄))]
  exact bigSep_congr fun j _ => bigSep_univ_equiv (payee j) (fun c : Dev nD => (dutyTok ER ((c : Thread nD τ), dutySem j) 0 (dutyFlag j) : sProp 𝕄))

/-- What persists may be used at every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem share_out (K : Dev nD × Fin 17 → ℕ) (c : Dev nD) :
    iprop(records m K ∗ ((bigSep Finset.univ fun k : Fin 17 => (atPos ER (kcell (c, k)) 0 ∅ 0 : sProp 𝕄)) ∗ payToks c ∗ localZeros c)) ⊢ G' m c := by
  rw [positions_eq, tokens_eq]
  unfold G'
  iintro ⟨#HR, H⟩
  isplitr; · iexists K; iexact HR
  iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ localZeros c) : sProp 𝕄)
      ⊢ bigSep Finset.univ (G' m) := by
  rw [bigSep_sep', bigSep_sep', bigSep_sep', ← bigSep_univ_prod (fun ck : Dev nD × Fin 17 => iprop(∃ κ : ℕ, cellInv ER (ringRd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄)), toks_around]
  iintro ⟨HI, ⟨Hat, #HR⟩, Htok, Hz⟩
  ihave HK := (BI.bigSep_exists_pi Finset.univ (fun (ck : Dev nD × Fin 17) (κ : ℕ) => (cellInv ER (ringRd m) κ (kcell ck) : sProp 𝕄))) $$ HI
  icases HK with ⟨%K, #HI⟩
  iapply (bigSep_beside (R := records m K) fun c _ => share_out m K c)
  isplitr
  · unfold records; isplitl; · iexact HI
    iexact HR
  rw [bigSep_sep', bigSep_sep']
  isplitl [Hat]; · iexact Hat
  isplitl [Htok]; · iexact Htok
  iexact Hz

/-- All devices at once, from the counters at zero to what each starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credit -/

/-- The credit of one debt: every device owes it to the device one place along, so every device is owed it. -/
theorem cred_at (c : Dev nD) (n : Fin 10) :
    (Pipeline.launchCred (fun d => debtAt d n.val) c : sProp 𝕄)
      ⊢ cred (tallyAt ((c : Thread nD τ), dutySem (debtDuty n)) () (amt (dutySem (debtDuty n)))) := by
  rw [show (fun d : Dev nD => debtAt d n.val) = fun d => tallyAt ((payee (debtDuty n) d : Thread nD τ), dutySem (debtDuty n)) () (amt (dutySem (debtDuty n)))
    from funext fun d => dif_pos n.isLt]
  exact Pipeline.launchCred_tallyAt (dutySem (debtDuty n)) (payee (debtDuty n)) (payee (debtDuty n)).symm
    (payee (debtDuty n)).apply_symm_apply (payee (debtDuty n)).symm_apply_apply () _ c

/-- The same, for a debt to a transfer semaphore. -/
theorem due_at (c : Dev nD) (n : Fin 10) (q : DmaSem sig) (h : dutySem (debtDuty n) = .dma q) :
    (Pipeline.launchCred (fun d => debtAt d n.val) c : sProp 𝕄) ⊢ due c q := by
  have := cred_at (F := F) c n
  rw [h] at this
  exact this

theorem cred_succ (c : Dev nD) (n : ℕ) :
    (Pipeline.launchCred (fun d => owed d (n + 1)) c : sProp 𝕄)
      = iprop(Pipeline.launchCred (fun d => owed d n) c ∗ Pipeline.launchCred (fun d => debtAt d n) c) :=
  Pipeline.launchCred_add (fun d => owed d n) (fun d => debtAt d n) c

theorem creds (c : Dev nD) : (Pipeline.launchCred O₀ c : sProp 𝕄) ⊢ credits c := by
  rw [show (O₀ : Dev nD → CellTallies nD τ sig Unit) = fun d => owed d (9 + 1) from rfl, cred_succ, cred_succ c 8, cred_succ c 7, cred_succ c 6,
    cred_succ c 5, cred_succ c 4, cred_succ c 3, cred_succ c 2, cred_succ c 1, cred_succ c 0]
  unfold credits
  iintro ⟨⟨⟨⟨⟨⟨⟨⟨⟨⟨-, H15⟩, H14⟩, H7⟩, H6⟩, H13⟩, H5⟩, H12⟩, H4⟩, HN⟩, HP⟩
  ihave HN := (show (Pipeline.launchCred (fun d => debtAt d 8) c : sProp 𝕄) ⊢ cred (tallyAt (bcell c) () 1) from cred_at c 8) $$ HN
  ihave HP := (show (Pipeline.launchCred (fun d => debtAt d 9) c : sProp 𝕄) ⊢ cred (tallyAt (bcell c) () 1) from cred_at c 9) $$ HP
  isplitl [H4]; · iapply (due_at c 7 _ rfl); iexact H4
  isplitl [H5]; · iapply (due_at c 5 _ rfl); iexact H5
  isplitl [H6]; · iapply (due_at c 3 _ rfl); iexact H6
  isplitl [H7]; · iapply (due_at c 2 _ rfl); iexact H7
  isplitl [H12]; · iapply (due_at c 6 _ rfl); iexact H12
  isplitl [H13]; · iapply (due_at c 4 _ rfl); iexact H13
  isplitl [H14]; · iapply (due_at c 1 _ rfl); iexact H14
  isplitl [H15]; · iapply (due_at c 0 _ rfl); iexact H15
  rw [show (2 : ℕ) = 1 + 1 from rfl, ← tallyAt_add]
  iapply (cred_add _ _).2
  isplitl [HN]; · iexact HN
  iexact HP

end Cert.KernelIdealRing

end
-- ==== Proof.KernelIdealLaunch.lean ====
/-
The run of the whole program: from any memory it ends, with every counter at zero, the two arguments as they were, and
every device's result at the products of its bands.
-/
module

public import proofs.«01_k».proof.Proof.KernelIdealDeal

public import Idealize.ShloMosaic.Lib.Pipeline.Quiescent

@[expose] public section

noncomputable section

namespace Cert.KernelIdealRing

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data: one point, no windows -/

/-- What holds before the body and after it, and what is owed. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => iprop(start m c ∗ scratch c)
    | ⟨_ + 1, _⟩ => iprop(done m c ∗ scratch c)
  q _ := fullShare
  owed t := match t with
    | ⟨0, _⟩ => O₀ c
    | ⟨_ + 1, _⟩ => 0

theorem bigSep_noWindow (Φ : Fin cfg0.W → sProp 𝕄) : bigSep Finset.univ Φ = iprop(emp) := by
  rw [show (Finset.univ : Finset (Fin cfg0.W)) = ∅ from Finset.univ_eq_empty (α := Fin 0)]
  exact bigSep_empty

set_option maxRecDepth 65536 in
/-- The body's obligation on each device. -/
theorem body_obligation (c : Dev nD) : BodyObligation (dats (F := F) m 0 c) (defs₀ (F := F)) 𝒱₀ () Set.univ := fun t => by
  rw [fin_N0 t, bigSep_noWindow, bigSep_noWindow]
  show iprop((start m c ∗ scratch c) ∗ (dats (F := F) m 0 c).owesAt () t0_0.castSucc ∗ emp) ⊢ wp frame (wpE (defs₀ (F := F)) 𝒱₀ (c : Thread nD τ) none) Set.univ
    (bodyAt0 (F := F) t0_0) (fun _ => iprop((done m c ∗ scratch c) ∗ (dats (F := F) m 0 c).owesAt () t0_0.succ ∗ emp))
  unfold Dat.owesAt Pipeline.owesWithin
  iintro ⟨⟨Hs, Hscr⟩, ⟨%W, %hW, HO⟩, -⟩
  iapply (sound_body m c t0_0) $$ [Hs Hscr HO]
  · isplitl [Hs]; · iexact Hs
    isplitl [Hscr]; · iexact Hscr
    unfold debt; iexists W; iexact HO
  unfold debt
  iintro ⟨Hd, Hscr, ⟨%W', HO⟩⟩
  isplitl [Hd Hscr]
  · isplitl [Hd]; · iexact Hd
    iexact Hscr
  isplitl [HO]
  · iexists W'
    isplitr; · ipureintro; exact fun _ _ => Or.inl trivial
    iexact HO
  iempintro

/-! ## The launch's side conditions -/

theorem share_eq (c : Dev nD) (w : Fin cfg0.W) : (dats m 0 c).share w = fullShare := w.elim0

/-- What of the arguments stays with the launch: a half share of each. -/
def kept (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  unfold start G' kept arrays localZeros
  iintro ⟨⟨Hx, Hw, Ho, Hg⟩, Hlev, Hcr, -, HK, Hpos, Htok, Hz⟩
  ihave Hcr := (creds (F := F) c) $$ Hcr
  ihave Hx := (pointsTo_share (PosShare.mem_left_op_right fullShare)).1 $$ Hx
  icases Hx with ⟨Hxl, Hxr⟩
  ihave Hw := (pointsTo_share (PosShare.mem_left_op_right fullShare)).1 $$ Hw
  icases Hw with ⟨Hwl, Hwr⟩
  imodintro
  isplitr [Hxl Hwl]
  · isplitl [HK]; · iexact HK
    isplitl [Hpos]; · iexact Hpos
    isplitl [Htok]; · iexact Htok
    isplitl [Hcr]; · iexact Hcr
    isplitl [Hlev]; · iexact Hlev
    isplitr [Hz]
    · isplitl [Hxr]; · iexact Hxr
      isplitl [Hwr]; · iexact Hwr
      isplitl [Ho]; · iexists _; iexact Ho
      iexists _; iexact Hg
    iexact Hz
  isplitl [Hxl]; · iexact Hxl
  iexact Hwl

/-- The device's own memory as the launch holds it. -/
theorem scratch_eq (c : Dev nD) : (scratch c : sProp 𝕄)
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) := by
  unfold scratch free
  rw [View.set_whole, View.set_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq, scratch_eq]
  iintro ⟨Hs, -, Hr⟩
  isplitl [Hs]; · iexact Hs
  iexact Hr

/-- What a device's run leaves to read: its result, and the barrier's counter at zero. -/
def left (c : Dev nD) : sProp 𝕄 :=
  iprop((∃ f, ⌜Spec m c f⌝ ∗ (((c : Thread nD τ).loc main_v1_0) ↦{fullShare} f)) ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = iprop(done m c ∗ scratch c) from rfl, scopedRest0_eq, scratch_eq, ownSems0_eq]
  unfold left done
  rw [unscopedSems0_eq]
  iintro ⟨⟨Hz, HB, Ho⟩, Hr⟩
  isplitl [HB Ho]
  · isplitl [Ho]; · iexact Ho
    iexact HB
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w _ _ => w.elim0

/-! ## The run -/

/-- What is read of a device's final state. -/
def Ends (c : Dev nD) (s : MemSt nD τ sig (Elt F)) : Prop :=
  Spec m c (s.mem ((c : Thread nD τ).loc main_v1_0))
    ∧ s.mem ((c : Thread nD τ).loc main_arg0) = m ((c : Thread nD τ).loc main_arg0)
    ∧ s.mem ((c : Thread nD τ).loc main_arg1) = m ((c : Thread nD τ).loc main_arg1)

theorem read_end (c : Dev nD) (s' : Phys nD τ sig (Elt F)) :
    iprop(left m c ∗ kept m c ∗ SI s')
      ⊢ |={Set.univ}=> iprop(⌜Ends m c s'.mem ∧ ∀ sm : SemLoc sig, sm.isScoped .tc = false → s'.mem.sem ((c.tc : Thread nD τ), sm) = 0⌝ ∗ (SI s' : sProp 𝕄)) := by
  unfold left kept
  iintro ⟨⟨⟨%f, %hf, Ho⟩, Hu⟩, ⟨Hx, Hw⟩, HSI⟩
  icombine HSI Ho gives %ho
  icombine HSI Hx gives %hx
  icombine HSI Hw gives %hw
  ihave %hs := (tcUnscoped_read c s') $$ [Hu HSI]
  · isplitl [Hu] <;> iassumption
  imodintro
  isplitr
  · ipureintro
    refine ⟨⟨?_, Buf.eq_of_forall_mem_univ hx, Buf.eq_of_forall_mem_univ hw⟩, hs⟩
    rw [Buf.eq_of_forall_mem_univ ho]; exact hf
  iexact HSI

set_option maxRecDepth 8000 in
/-- On four devices, from any memory with every counter at zero: every fair run of the program ends, with both arguments
    as they were on each device, each device's result at the products of its bands, and every counter at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (show BI.own (((Emb.inl : Emb UB (UB × Counters)).trans embR) (initOf ringCells ringToks)) ⊢ (|==> bigSep Finset.univ (G m) : sProp 𝕄) from fund_ring m) $$ HX with HG
      imodintro
      isplitl [HP] <;> iassumption)
    (hglob := glob m)
    (hA := fun _ _ => rfl) (hpf := fun _ k => k.elim0)
    (X := start m) (Y := left m) (Z := kept m)
    (hX := start_intro m ρ) (hin := phi0_intro m) (hout := phi1_exit m)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.KernelIdealRing

end
-- ==== Proof.Value.lean ====
/-
What the kernel's bands hold, read over exact arithmetic: each entry of a band is a sum of products of an entry of `x` and
an entry of `w`, which is the entry of the whole product `x · w` at the same row and at the device's own columns.
-/
module

public import proofs.«01_k».proof.Proof.KernelIdealBands
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.KernelIdealRing

open Cert.KernelIdeal Cert.KernelIdeal.Gen
open Idealize.ShloMosaic Idealize.ShloMosaic.TcCoe Idealize.ShloMosaic.ValueIdx
open scoped BigOperators

/-! ## One entry of a stored band -/

/-- Rows times `w`, stored with a leading axis of size one and read without it: the sum over the inner index. -/
theorem stored_entry {n : ℕ} (X : FVec Ideal ⟨2, ![n, 4096]⟩ .f32) (Y : FVec Ideal ⟨2, ![4096, 2048]⟩ .f32)
    (h : (⟨2, ![n, 2048]⟩ : Shape).ShapeCasts ⟨3, ![1, n, 2048]⟩)
    (e : (⟨2, ![n, 2048]⟩ : Shape).numel = (⟨3, ![1, n, 2048]⟩ : Shape).numel) (r : Fin n) (q : Fin 2048) :
    shapeCast ⟨3, ![1, n, 2048]⟩
        (FloatOps.matmul (DotDims.plain n 4096 2048) none X Y (constant ⟨2, ![n, 2048]⟩ .f32 0x00000000#32)) h
        (Shape.reshapeEquiv e (ix2 r q))
      = ∑ k : Fin 4096, X (ix2 r k) * Y (ix2 k q) := by
  rw [reshapeEquiv_ix2_1ab, shapeCast_ab_1ab_apply, Ideal.matmul_plain_apply]
  show Ideal.ofBits .f32 0x00000000#32 + _ = _
  rw [Ideal.ofBits_zero_f32, zero_add]

/-- An entry of 512 stored rows. -/
theorem prodH_entry (X : S512x4096.Idx → Elt Ideal .f32) (Y : S4096x2048.Idx → Elt Ideal .f32) (r : Fin 512) (q : Fin 2048) :
    prodH (F := Ideal) X Y (ix2 r q) = ∑ k : Fin 4096, (X (ix2 r k) * Y (ix2 k q) : EReal) :=
  stored_entry X Y shapeCasts_S512x2048_S1x512x2048 squeezes_S1x512x2048_S512x2048.numel_eq r q
/-- An entry of 256 stored rows. -/
theorem prodQ_entry (X : S256x4096.Idx → Elt Ideal .f32) (Y : S4096x2048.Idx → Elt Ideal .f32) (r : Fin 256) (q : Fin 2048) :
    prodQ (F := Ideal) X Y (ix2 r q) = ∑ k : Fin 4096, (X (ix2 r k) * Y (ix2 k q) : EReal) :=
  stored_entry X Y shapeCasts_S256x2048_S1x256x2048 squeezes_S1x256x2048_S256x2048.numel_eq r q

/-! ## The entry of the result that it is -/

variable (m : (ℓ : Loc nD τ sig) → Buf (Elt Ideal) ℓ)

/-- Entry (`s`, `k`) of device `o`'s block of `x`, as launched. -/
def xAt (o : Dev nD) (s : ℕ) (hs : s < 1024) (k : Fin 4096) : EReal :=
  (m ((o : Thread nD τ).loc main_arg0) : S1024x4096.Idx → EReal) (ix2 (⟨s, hs⟩ : Fin 1024) k)
/-- Entry (`k`, `q`) of device `c`'s block of `w`, as launched. -/
def wAt (c : Dev nD) (k : Fin 4096) (q : Fin 2048) : EReal :=
  (m ((c : Thread nD τ).loc main_arg1) : S4096x2048.Idx → EReal) (ix2 k q)

/-- Entry (`s`, `q`) of device `o`'s rows times device `c`'s block of `w`. -/
def entry (c o : Dev nD) (s : ℕ) (hs : s < 1024) (q : Fin 2048) : EReal := ∑ k : Fin 4096, xAt m o s hs k * wAt m c k q

/-- The block of `w` is loaded whole. -/
theorem wL_eq (c : Dev nD) (k : Fin 4096) (q : Fin 2048) :
    wL m c (ix2 k q) = wAt m c k q := by
  show m ((c : Thread nD τ).loc main_arg1) (wR.emb (ix2 k q)) = m ((c : Thread nD τ).loc main_arg1) (ix2 k q)
  congr 1
  funext b
  fin_cases b
  · refine Fin.ext ?_
    show 0 + 1 * k.val = k.val
    omega
  · refine Fin.ext ?_
    show 0 + 1 * q.val = q.val
    omega
/-- Row `r` of the 512 rows of `x` from row `a`. -/
theorem xH_eq (o : Dev nD) (a : ℕ) (ha : a + 512 ≤ 1024) (r : Fin 512) (k : Fin 4096) :
    xH m o a ha (ix2 r k) = xAt m o (a + r.val) (by omega) k := by
  show m ((o : Thread nD τ).loc main_arg0) ((xHalf a ha).view.emb (ix2 r k))
    = m ((o : Thread nD τ).loc main_arg0) (ix2 (⟨a + r.val, by omega⟩ : Fin 1024) k)
  congr 1
  funext b
  fin_cases b
  · refine Fin.ext ?_
    show a + 1 * r.val = a + r.val
    omega
  · refine Fin.ext ?_
    show 0 + 1 * k.val = k.val
    omega
/-- Row `r` of the 256 rows of `x` from row `a`. -/
theorem xQ_eq (o : Dev nD) (a : ℕ) (ha : a + 256 ≤ 1024) (r : Fin 256) (k : Fin 4096) :
    xQ m o a ha (ix2 r k) = xAt m o (a + r.val) (by omega) k := by
  show m ((o : Thread nD τ).loc main_arg0) ((xQtr a ha).view.emb (ix2 r k))
    = m ((o : Thread nD τ).loc main_arg0) (ix2 (⟨a + r.val, by omega⟩ : Fin 1024) k)
  congr 1
  funext b
  fin_cases b
  · refine Fin.ext ?_
    show a + 1 * r.val = a + r.val
    omega
  · refine Fin.ext ?_
    show 0 + 1 * k.val = k.val
    omega

/-- The row and the column of a device's result. -/
def oIdx (o : Dev nD) (s : ℕ) (hs : s < 1024) (q : Fin 2048) : S4096x2048.Idx :=
  ix2 (⟨1024 * o.val + s, by have : o.val < 4 := o.isLt; omega⟩ : Fin 4096) q

/-- A window of 512 rows that holds its product has the right entry at each place. -/
theorem half_entry (c o : Dev nD) (a : ℕ) (ha : a + 512 ≤ 1024) (f : (main_v1_0 : Ref sig .tc).ty.Contents (Elt Ideal))
    (h : HalfAt m c o a ha f) (r : Fin 512) (q : Fin 2048) :
    f (oIdx o (a + r.val) (by omega) q) = entry m c o (a + r.val) (by omega) q := by
  have hj : (oHalf o a ha).view.emb (ix2 r q) = oIdx o (a + r.val) (by omega) q := by
    funext b
    fin_cases b
    · refine Fin.ext ?_
      show 1024 * o.val + a + 1 * r.val = 1024 * o.val + (a + r.val)
      omega
    · refine Fin.ext ?_
      show 0 + 1 * q.val = q.val
      omega
  rw [← hj]
  refine (congrFun h (ix2 r q)).trans ((prodH_entry _ _ r q).trans ?_)
  unfold entry
  exact Finset.sum_congr rfl fun k _ => by rw [xH_eq, wL_eq]
/-- A window of 256 rows that holds its product has the right entry at each place. -/
theorem qtr_entry (c o : Dev nD) (a : ℕ) (ha : a + 256 ≤ 1024) (f : (main_v1_0 : Ref sig .tc).ty.Contents (Elt Ideal))
    (h : QtrAt m c o a ha f) (r : Fin 256) (q : Fin 2048) :
    f (oIdx o (a + r.val) (by omega) q) = entry m c o (a + r.val) (by omega) q := by
  have hj : (oQtr o a ha).view.emb (ix2 r q) = oIdx o (a + r.val) (by omega) q := by
    funext b
    fin_cases b
    · refine Fin.ext ?_
      show 1024 * o.val + a + 1 * r.val = 1024 * o.val + (a + r.val)
      omega
    · refine Fin.ext ?_
      show 0 + 1 * q.val = q.val
      omega
  rw [← hj]
  refine (congrFun h (ix2 r q)).trans ((prodQ_entry _ _ r q).trans ?_)
  unfold entry
  exact Finset.sum_congr rfl fun k _ => by rw [xQ_eq, wL_eq]

/-- A band has 512 rows or 256. -/
theorem band_len : ∀ k : Fin 10, bandL k = 512 ∨ bandL k = 256 := by decide

/-- Every entry of a device's result is an entry of some device's rows of `x` times its own block of `w`. -/
theorem result_entry (c : Dev nD) (f : (main_v1_0 : Ref sig .tc).ty.Contents (Elt Ideal)) (hf : Spec m c f) (i : S4096x2048.Idx) :
    ∃ (o : Dev nD) (s : ℕ) (hs : s < 1024), i = oIdx o s hs (i 1) ∧ f i = entry m c o s hs (i 1) := by
  obtain ⟨k, hk⟩ := bandR_mem c i
  have hle := band_le k
  unfold bandR rowsO at hk
  simp only [Finset.mem_filter, Finset.mem_univ, true_and] at hk
  obtain ⟨t, ht⟩ : ∃ t, (i 0).val = 1024 * (bandO c k).val + (bandA k + t) :=
    ⟨(i 0).val - (1024 * (bandO c k).val + bandA k), by omega⟩
  have htL : t < bandL k := by omega
  have hi : i = oIdx (bandO c k) (bandA k + t) (by omega) (i 1) := by
    funext b
    fin_cases b
    · exact Fin.ext ht
    · rfl
  refine ⟨bandO c k, bandA k + t, by omega, hi, ?_⟩
  rcases band_len k with hl | hl
  · exact (congrArg f hi).trans (half_entry m c _ _ (by omega) f ((hf k).1 hl _) ⟨t, by omega⟩ (i 1))
  · exact (congrArg f hi).trans (qtr_entry m c _ _ (by omega) f ((hf k).2 hl _) ⟨t, by omega⟩ (i 1))

/-! ## The whole product -/

/-- The reference's result. -/
abbrev whole (A : (⟨2, ![4096, 4096]⟩ : Shape).Idx → Elt Ideal .f32) (B : (⟨2, ![4096, 8192]⟩ : Shape).Idx → Elt Ideal .f32) :
    (⟨2, ![4096, 8192]⟩ : Shape).Idx → Elt Ideal .f32 :=
  Host.dotGeneral (F := Ideal) (φ₁ := .f32) (φ₂ := .f32)
    Cert.ReferenceIdeal.dot_S4096x4096_S4096x8192_S4096x8192_1_0_0_1_n_n none A B

/-- An entry of the whole product. -/
theorem whole_entry (A : (⟨2, ![4096, 4096]⟩ : Shape).Idx → Elt Ideal .f32) (B : (⟨2, ![4096, 8192]⟩ : Shape).Idx → Elt Ideal .f32)
    (r : Fin 4096) (q : Fin 8192) : whole A B (ix2 r q) = ∑ k : Fin 4096, (A (ix2 r k) * B (ix2 k q) : EReal) :=
  StackMember.dotGeneral_plain_apply (m := 4096) (n := 8192) none A B r q

/-- Where each device's arguments are its blocks of the whole arguments, its result is its block of the whole product. -/
theorem result_block (A : (⟨2, ![4096, 4096]⟩ : Shape).Idx → Elt Ideal .f32) (B : (⟨2, ![4096, 8192]⟩ : Shape).Idx → Elt Ideal .f32)
    (hA : ∀ c : Dev nD, m ((c : Thread nD τ).loc main_arg0) = Layout.block ⟨2, ![1024, 4096]⟩ ⟨2, ![4096, 4096]⟩ 0 4 c A)
    (hB : ∀ c : Dev nD, m ((c : Thread nD τ).loc main_arg1) = Layout.block ⟨2, ![4096, 2048]⟩ ⟨2, ![4096, 8192]⟩ 1 4 c B)
    (c : Dev nD) (f : (main_v1_0 : Ref sig .tc).ty.Contents (Elt Ideal)) (hf : Spec m c f) :
    f = Layout.block ⟨2, ![4096, 2048]⟩ ⟨2, ![4096, 8192]⟩ 1 4 c (whole A B) := by
  have hc : c.val < 4 := c.isLt
  funext i
  obtain ⟨o, s, hs, hi, he⟩ := result_entry m c f hf i
  have ho : o.val < 4 := o.isLt
  have hq : (i 1).val < 2048 := (i 1).isLt
  rw [he, hi, Layout.block_apply]
  have hw : ∀ h : Layout.Tiles ⟨2, ![4096, 2048]⟩ ⟨2, ![4096, 8192]⟩ 1 4,
      h.idx c (oIdx o s hs (i 1)) = ix2 (⟨1024 * o.val + s, by omega⟩ : Fin 4096) (⟨c.val * 2048 + (i 1).val, by omega⟩ : Fin 8192) := by
    intro h
    funext b
    fin_cases b <;> rfl
  rw [hw]
  refine Eq.trans ?_ (whole_entry A B _ _).symm
  refine Finset.sum_congr (M := EReal) rfl fun k _ => congrArg₂ (· * · : EReal → EReal → EReal) ?_ ?_
  · refine (congrFun (hA o) _).trans ((Layout.block_apply _ _ _ _).trans (congrArg A ?_))
    funext b
    fin_cases b
    · refine Fin.ext ?_
      show o.val * 1024 + s = 1024 * o.val + s
      omega
    · rfl
  · refine (congrFun (hB c) _).trans ((Layout.block_apply _ _ _ _).trans (congrArg B ?_))
    funext b
    fin_cases b <;> rfl

end Cert.KernelIdealRing

end
-- ==== Proof.lean ====
/-
The certificate's claims. Each program's run is proved in a module of its own (Proof/KernelLaunch.lean,
Proof/KernelIdealLaunch.lean, the reference's in Proof/Gen/ReferenceIdeal/Run.lean), and the arithmetic in Proof/Value.lean;
here they are read at what each claim asks.
-/
module

public import proofs.«01_k».proof.Defs
public import proofs.«01_k».proof.Proof.KernelLaunch
public import proofs.«01_k».proof.Proof.KernelIdealLaunch
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel, over machine floats, runs, leaves its arguments as they were and ends with every counter at zero. -/
theorem frame_kernel : Cert.quiescent_Kernel := fun m g _ =>
  (θ_run Cert.Kernel.defs _ _).mono (fun _ h => ⟨fun c => (h.1 c).2, h.2⟩) (Cert.KernelRing.run_main (F := Bits) m g)

/-- The same of the kernel over exact arithmetic. -/
theorem frame_kernelIdeal : Cert.quiescent_KernelIdeal := fun m g _ =>
  (θ_run Cert.KernelIdeal.defs _ _).mono (fun _ h => ⟨fun c => (h.1 c).2, h.2⟩)
    (Cert.KernelIdealRing.run_main (F := Ideal) m g)

/-- The same of the reference, which declares no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over exact arithmetic each device of the kernel ends with its own columns of the reference's product. -/
theorem value : Cert.algebraic_KernelIdeal_ReferenceIdeal := by
  intro m g m' g' _ hm
  refine ⟨Cert.KernelIdealRing.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    ?_, ?_⟩
  · exact (θ_run Cert.KernelIdeal.defs _ _).mono
      (fun r h c => ⟨Cert.KernelIdealRing.result_block m _ _ (fun d => (hm d).1) (fun d => (hm d).2) c _ (h.1 c).1, (h.1 c).2⟩)
      (Cert.KernelIdealRing.run_main (F := Ideal) m g)
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_kernelIdeal, frame_reference, trivial, value⟩

end Cert.Proof

end
